-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ preserves_Kernel_KernelIdeal
    ∧ algebraic_KernelIdeal_ReferenceIdeal_pre_finite_logits (hKernelIdeal := hKernelIdeal) (hReferenceIdeal := hReferenceIdeal) (hPre_finite_logits := hPre_finite_logits)
-- ==== Pre_finite_logits.lean ====
abbrev S32x8192x34 : Shape := ⟨3, ![32, 8192, 34]⟩
abbrev S32x8192x2 : Shape := ⟨3, ![32, 8192, 2]⟩
abbrev S32x8192x1 : Shape := ⟨3, ![32, 8192, 1]⟩
abbrev S32x8192 : Shape := ⟨2, ![32, 8192]⟩
abbrev S32x8192x80 : Shape := ⟨3, ![32, 8192, 80]⟩
abbrev S_ : Shape := ⟨0, ![]⟩

class Facts : Prop where
  bcast_S_S32x8192x34 : S_.BroadcastsInDim S32x8192x34 (![] : Fin 0 → Fin S32x8192x34.rank)

variable [Facts]

def fn {F : FTy → Type} [FloatOps F] (main_arg0 : FVec F S32x8192x34 .f32) (main_arg1 : FVec F S32x8192x2 .f32) (main_arg2 : FVec F S32x8192x1 .f32) (main_arg3 : IVec S32x8192 32) (main_arg4 : FVec F S32x8192x2 .f32) (main_arg5 : FVec F S32x8192x80 .f32) (main_arg6 : FVec F S_ .f32) : IVec S32x8192x34 1 :=
  let main_v0 : FVec F S32x8192x34 .f32 := Host.absf main_arg0
  let main_cst : FVec F S_ .f32 := constant S_ .f32 0x7F800000#32
  let main_v1 : FVec F S32x8192x34 .f32 := broadcastInDim S32x8192x34 ![] bcast_S_S32x8192x34 main_cst
  let main_v2 : IVec S32x8192x34 1 := cmpf .olt main_v0 main_v1
  main_v2
-- ==== Kernel.lean ====
abbrev S32x8192x34 : Shape := ⟨3, ![32, 8192, 34]⟩
abbrev S32x8192x2 : Shape := ⟨3, ![32, 8192, 2]⟩
abbrev S32x8192x1 : Shape := ⟨3, ![32, 8192, 1]⟩
abbrev S32x8192 : Shape := ⟨2, ![32, 8192]⟩
abbrev S32x8192x80 : Shape := ⟨3, ![32, 8192, 80]⟩
abbrev S_ : Shape := ⟨0, ![]⟩
abbrev S262144x80 : Shape := ⟨2, ![262144, 80]⟩
abbrev S1x2048x128 : Shape := ⟨3, ![1, 2048, 128]⟩
abbrev S2048x128x34 : Shape := ⟨3, ![2048, 128, 34]⟩
abbrev S34x2048x128 : Shape := ⟨3, ![34, 2048, 128]⟩
abbrev S2048x128x2 : Shape := ⟨3, ![2048, 128, 2]⟩
abbrev S2x2048x128 : Shape := ⟨3, ![2, 2048, 128]⟩
abbrev S2048x128x1 : Shape := ⟨3, ![2048, 128, 1]⟩
abbrev S2048x128 : Shape := ⟨2, ![2048, 128]⟩
abbrev S1 : Shape := ⟨1, ![1]⟩
abbrev S8192x80 : Shape := ⟨2, ![8192, 80]⟩
abbrev S1x64x128 : Shape := ⟨3, ![1, 64, 128]⟩
abbrev S8x80 : Shape := ⟨2, ![8, 80]⟩
abbrev S8x8192 : Shape := ⟨2, ![8, 8192]⟩
abbrev S1x8192 : Shape := ⟨2, ![1, 8192]⟩
abbrev S34x64x128 : Shape := ⟨3, ![34, 64, 128]⟩
abbrev S2x64x128 : Shape := ⟨3, ![2, 64, 128]⟩
abbrev S64x128 : Shape := ⟨2, ![64, 128]⟩
abbrev S8 : Shape := ⟨1, ![8]⟩
abbrev S1x1x1 : Shape := ⟨3, ![1, 1, 1]⟩
abbrev S17x64x128 : Shape := ⟨3, ![17, 64, 128]⟩

abbrev nBuf : Space → Nat
  | .hbm => 25
  | .vmem => 16
  | .smem => 5
  | _ => 0

abbrev bufTy : (tb : Table) → Fin (tcTables nBuf tb) → BufTy
  | .hbm, ⟨0, _⟩ => ⟨S32x8192x34, .f32⟩
  | .hbm, ⟨1, _⟩ => ⟨S32x8192x2, .f32⟩
  | .hbm, ⟨2, _⟩ => ⟨S32x8192x1, .f32⟩
  | .hbm, ⟨3, _⟩ => ⟨S32x8192, .i32⟩
  | .hbm, ⟨4, _⟩ => ⟨S32x8192x2, .f32⟩
  | .hbm, ⟨5, _⟩ => ⟨S32x8192x80, .f32⟩
  | .hbm, ⟨6, _⟩ => ⟨S_, .f32⟩
  | .hbm, ⟨7, _⟩ => ⟨S262144x80, .f32⟩
  | .hbm, ⟨8, _⟩ => ⟨S1x2048x128, .f32⟩
  | .hbm, ⟨9, _⟩ => ⟨S2048x128x34, .f32⟩
  | .hbm, ⟨10, _⟩ => ⟨S34x2048x128, .f32⟩
  | .hbm, ⟨11, _⟩ => ⟨S2048x128x2, .f32⟩
  | .hbm, ⟨12, _⟩ => ⟨S2x2048x128, .f32⟩
  | .hbm, ⟨13, _⟩ => ⟨S2048x128x2, .f32⟩
  | .hbm, ⟨14, _⟩ => ⟨S2x2048x128, .f32⟩
  | .hbm, ⟨15, _⟩ => ⟨S2048x128x1, .f32⟩
  | .hbm, ⟨16, _⟩ => ⟨S1x2048x128, .f32⟩
  | .hbm, ⟨17, _⟩ => ⟨S2048x128, .i32⟩
  | .hbm, ⟨18, _⟩ => ⟨S1, .f32⟩
  | .hbm, ⟨19, _⟩ => ⟨S1, .f32⟩
  | .hbm, ⟨20, _⟩ => ⟨S1, .f32⟩
  | .hbm, ⟨21, _⟩ => ⟨S1, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S8192x80, .f32⟩
  | .local _ .vmem, ⟨1, _⟩ => ⟨S8192x80, .f32⟩
  | .local _ .vmem, ⟨2, _⟩ => ⟨S1x64x128, .f32⟩
  | .local _ .vmem, ⟨3, _⟩ => ⟨S1x64x128, .f32⟩
  | .local _ .vmem, ⟨4, _⟩ => ⟨S34x64x128, .f32⟩
  | .local _ .vmem, ⟨5, _⟩ => ⟨S34x64x128, .f32⟩
  | .local _ .vmem, ⟨6, _⟩ => ⟨S1x64x128, .f32⟩
  | .local _ .vmem, ⟨7, _⟩ => ⟨S1x64x128, .f32⟩
  | .local _ .vmem, ⟨8, _⟩ => ⟨S2x64x128, .f32⟩
  | .local _ .vmem, ⟨9, _⟩ => ⟨S2x64x128, .f32⟩
  | .local _ .vmem, ⟨10, _⟩ => ⟨S1x64x128, .f32⟩
  | .local _ .vmem, ⟨11, _⟩ => ⟨S1x64x128, .f32⟩
  | .local _ .vmem, ⟨12, _⟩ => ⟨S64x128, .i32⟩
  | .local _ .vmem, ⟨13, _⟩ => ⟨S64x128, .i32⟩
  | .local _ .vmem, ⟨14, _⟩ => ⟨S2x64x128, .f32⟩
  | .local _ .vmem, ⟨15, _⟩ => ⟨S2x64x128, .f32⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | .local _ .smem, ⟨4, _⟩ => ⟨S8, .f32⟩
  | _, _ => ⟨S32x8192x34, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12_0 : Ref sig .tc := ⟨.hbm, 19, rfl⟩
abbrev main_call0_v12_1 : Ref sig .tc := ⟨.hbm, 20, rfl⟩
abbrev main_call0_v12_2 : Ref sig .tc := ⟨.hbm, 21, rfl⟩
abbrev main_v0_0 : Ref sig .tc := ⟨.hbm, 22, rfl⟩
abbrev main_v0_1 : Ref sig .tc := ⟨.hbm, 23, rfl⟩
abbrev main_v0_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.smem, 0, rfl⟩
abbrev cc1_stg7_0 : Ref sig .tc := ⟨.smem, 1, rfl⟩
abbrev cc1_stg8_0 : Ref sig .tc := ⟨.smem, 2, rfl⟩
abbrev cc1_stg9_0 : Ref sig .tc := ⟨.smem, 3, rfl⟩
abbrev cc1_scratch0 : Ref sig .tc := ⟨.smem, 4, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem7_0 : DmaSem sig := 17
abbrev cc1_sem8_0 : DmaSem sig := 18
abbrev cc1_sem9_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8192x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def k1_cond2 (i : grid1.Coords) : BitVec 1 :=
  let arg0 : BitVec 32 := BitVec.ofNat 32 (i 0).val
  let c31_i32 : BitVec 32 := 31#32
  let v158 : BitVec 1 := Scalar.cmpi .eq arg0 c31_i32
  let v159 : BitVec 32 := Scalar.extui v158
  let c0_i32_58 : BitVec 32 := 0#32
  let v160 : BitVec 1 := Scalar.cmpi .ne v159 c0_i32_58
  v160

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S34x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x64x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S64x128 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2x64x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .smem S1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .smem S1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .smem S1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .smem S1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== ReferenceIdeal.lean ====
abbrev S32x8192x34 : Shape := ⟨3, ![32, 8192, 34]⟩
abbrev S32x8192x2 : Shape := ⟨3, ![32, 8192, 2]⟩
abbrev S32x8192x1 : Shape := ⟨3, ![32, 8192, 1]⟩
abbrev S32x8192 : Shape := ⟨2, ![32, 8192]⟩
abbrev S32x8192x80 : Shape := ⟨3, ![32, 8192, 80]⟩
abbrev S_ : Shape := ⟨0, ![]⟩
abbrev S32x8192x2x17 : Shape := ⟨4, ![32, 8192, 2, 17]⟩
abbrev S32x8192x2x1 : Shape := ⟨4, ![32, 8192, 2, 1]⟩
abbrev S32x8192x2x1x1 : Shape := ⟨5, ![32, 8192, 2, 1, 1]⟩
abbrev S1 : Shape := ⟨1, ![1]⟩
abbrev S1x1x1x1x1 : Shape := ⟨5, ![1, 1, 1, 1, 1]⟩

abbrev nBuf : Space → Nat
  | .hbm => 176
  | .vmem => 0
  | .smem => 0
  | _ => 0

abbrev hbmTy0_0 (i : Nat) : BufTy := match i % 128 with
  | 0 => ⟨S32x8192x34, .f32⟩
  | 1 => ⟨S32x8192x2, .f32⟩
  | 2 => ⟨S32x8192x1, .f32⟩
  | 3 => ⟨S32x8192, .i32⟩
  | 4 => ⟨S32x8192x2, .f32⟩
  | 5 => ⟨S32x8192x80, .f32⟩
  | 6 => ⟨S_, .f32⟩
  | 7 => ⟨S_, .i32⟩
  | 8 => ⟨S32x8192, .i32⟩
  | 9 => ⟨S32x8192, .i1⟩
  | 10 => ⟨S32x8192, .f32⟩
  | 11 => ⟨S_, .f32⟩
  | 12 => ⟨S_, .f32⟩
  | 13 => ⟨S32x8192x2, .f32⟩
  | 14 => ⟨S32x8192x2, .f32⟩
  | 15 => ⟨S32x8192x1, .f32⟩
  | 16 => ⟨S32x8192x2, .f32⟩
  | 17 => ⟨S32x8192x2, .f32⟩
  | 18 => ⟨S_, .f32⟩
  | 19 => ⟨S_, .f32⟩
  | 20 => ⟨S_, .f32⟩
  | 21 => ⟨S_, .f32⟩
  | 22 => ⟨S_, .f32⟩
  | 23 => ⟨S32x8192x1, .f32⟩
  | 24 => ⟨S32x8192, .f32⟩
  | 25 => ⟨S32x8192x1, .f32⟩
  | 26 => ⟨S32x8192, .f32⟩
  | 27 => ⟨S32x8192, .f32⟩
  | 28 => ⟨S32x8192x1, .f32⟩
  | 29 => ⟨S32x8192, .f32⟩
  | 30 => ⟨S32x8192x1, .f32⟩
  | 31 => ⟨S32x8192, .f32⟩
  | 32 => ⟨S32x8192, .f32⟩
  | 33 => ⟨S32x8192, .f32⟩
  | 34 => ⟨S_, .f32⟩
  | 35 => ⟨S_, .f32⟩
  | 36 => ⟨S32x8192, .f32⟩
  | 37 => ⟨S32x8192, .f32⟩
  | 38 => ⟨S32x8192x1, .f32⟩
  | 39 => ⟨S32x8192, .f32⟩
  | 40 => ⟨S32x8192x1, .f32⟩
  | 41 => ⟨S32x8192, .f32⟩
  | 42 => ⟨S32x8192, .f32⟩
  | 43 => ⟨S32x8192x1, .f32⟩
  | 44 => ⟨S32x8192, .f32⟩
  | 45 => ⟨S32x8192x1, .f32⟩
  | 46 => ⟨S32x8192, .f32⟩
  | 47 => ⟨S32x8192, .f32⟩
  | 48 => ⟨S32x8192, .f32⟩
  | 49 => ⟨S32x8192, .f32⟩
  | 50 => ⟨S_, .f32⟩
  | 51 => ⟨S_, .f32⟩
  | 52 => ⟨S32x8192, .f32⟩
  | 53 => ⟨S32x8192, .f32⟩
  | 54 => ⟨S32x8192, .f32⟩
  | 55 => ⟨S_, .f32⟩
  | 56 => ⟨S_, .f32⟩
  | 57 => ⟨S32x8192, .f32⟩
  | 58 => ⟨S32x8192, .f32⟩
  | 59 => ⟨S_, .f32⟩
  | 60 => ⟨S32x8192, .f32⟩
  | 61 => ⟨S32x8192, .f32⟩
  | 62 => ⟨S_, .f32⟩
  | 63 => ⟨S_, .f32⟩
  | 64 => ⟨S32x8192, .f32⟩
  | 65 => ⟨S32x8192, .f32⟩
  | 66 => ⟨S_, .f32⟩
  | 67 => ⟨S_, .f32⟩
  | 68 => ⟨S_, .f32⟩
  | 69 => ⟨S_, .f32⟩
  | 70 => ⟨S32x8192, .f32⟩
  | 71 => ⟨S32x8192, .f32⟩
  | 72 => ⟨S_, .f32⟩
  | 73 => ⟨S_, .f32⟩
  | 74 => ⟨S_, .f32⟩
  | 75 => ⟨S_, .f32⟩
  | 76 => ⟨S32x8192x1, .f32⟩
  | 77 => ⟨S32x8192x1, .f32⟩
  | 78 => ⟨S32x8192x1, .f32⟩
  | 79 => ⟨S32x8192x1, .f32⟩
  | 80 => ⟨S32x8192x2, .f32⟩
  | 81 => ⟨S_, .f32⟩
  | 82 => ⟨S_, .f32⟩
  | 83 => ⟨S_, .f32⟩
  | 84 => ⟨S32x8192x2, .f32⟩
  | 85 => ⟨S32x8192x2, .f32⟩
  | 86 => ⟨S_, .f32⟩
  | 87 => ⟨S32x8192x2, .f32⟩
  | 88 => ⟨S32x8192x2, .f32⟩
  | 89 => ⟨S32x8192x2x17, .f32⟩
  | 90 => ⟨S_, .f32⟩
  | 91 => ⟨S32x8192x2, .f32⟩
  | 92 => ⟨S_, .f32⟩
  | 93 => ⟨S32x8192x2, .f32⟩
  | 94 => ⟨S32x8192x2, .f32⟩
  | 95 => ⟨S32x8192x2x1, .f32⟩
  | 96 => ⟨S32x8192x2x17, .f32⟩
  | 97 => ⟨S32x8192x2x17, .f32⟩
  | 98 => ⟨S32x8192x2x17, .f32⟩
  | 99 => ⟨S_, .f32⟩
  | 100 => ⟨S32x8192x2, .f32⟩
  | 101 => ⟨S32x8192x2x1, .f32⟩
  | 102 => ⟨S32x8192x2x1, .f32⟩
  | 103 => ⟨S32x8192x2x17, .f32⟩
  | 104 => ⟨S32x8192x2x17, .f32⟩
  | 105 => ⟨S32x8192x2, .i32⟩
  | 106 => ⟨S_, .i32⟩
  | 107 => ⟨S32x8192x2, .i32⟩
  | 108 => ⟨S32x8192x2, .i32⟩
  | 109 => ⟨S32x8192x2, .f32⟩
  | 110 => ⟨S32x8192x2, .f32⟩
  | 111 => ⟨S_, .f32⟩
  | 112 => ⟨S32x8192x2, .f32⟩
  | 113 => ⟨S32x8192x2, .f32⟩
  | 114 => ⟨S32x8192x2x1, .i32⟩
  | 115 => ⟨S_, .i32⟩
  | 116 => ⟨S32x8192x2x1, .i32⟩
  | 117 => ⟨S32x8192x2x1, .i1⟩
  | 118 => ⟨S_, .i32⟩
  | 119 => ⟨S32x8192x2x1, .i32⟩
  | 120 => ⟨S32x8192x2x1, .i32⟩
  | 121 => ⟨S32x8192x2x1, .i32⟩
  | 122 => ⟨S32x8192x2x1x1, .i32⟩
  | 123 => ⟨S1, .i32⟩
  | 124 => ⟨S_, .i32⟩
  | 125 => ⟨S32x8192x2x1x1, .i32⟩
  | 126 => ⟨S32x8192x2x1x1, .i1⟩
  | 127 => ⟨S1x1x1x1x1, .i32⟩
  | _ => ⟨S32x8192x34, .f32⟩

abbrev hbmTy0_1 (i : Nat) : BufTy := match i % 128 with
  | 0 => ⟨S32x8192x2x1x1, .i32⟩
  | 1 => ⟨S32x8192x2x1x1, .i1⟩
  | 2 => ⟨S32x8192x2x1x1, .i1⟩
  | 3 => ⟨S_, .i1⟩
  | 4 => ⟨S32x8192x2x1, .i1⟩
  | 5 => ⟨S32x8192x2x1, .f32⟩
  | 6 => ⟨S_, .f32⟩
  | 7 => ⟨S32x8192x2x1, .f32⟩
  | 8 => ⟨S32x8192x2x1, .f32⟩
  | 9 => ⟨S32x8192x2, .f32⟩
  | 10 => ⟨S32x8192x2, .f32⟩
  | 11 => ⟨S32x8192x2, .f32⟩
  | 12 => ⟨S32x8192x2x1, .i32⟩
  | 13 => ⟨S_, .i32⟩
  | 14 => ⟨S32x8192x2x1, .i32⟩
  | 15 => ⟨S32x8192x2x1, .i1⟩
  | 16 => ⟨S_, .i32⟩
  | 17 => ⟨S32x8192x2x1, .i32⟩
  | 18 => ⟨S32x8192x2x1, .i32⟩
  | 19 => ⟨S32x8192x2x1, .i32⟩
  | 20 => ⟨S32x8192x2x1x1, .i32⟩
  | 21 => ⟨S1, .i32⟩
  | 22 => ⟨S_, .i32⟩
  | 23 => ⟨S32x8192x2x1x1, .i32⟩
  | 24 => ⟨S32x8192x2x1x1, .i1⟩
  | 25 => ⟨S1x1x1x1x1, .i32⟩
  | 26 => ⟨S32x8192x2x1x1, .i32⟩
  | 27 => ⟨S32x8192x2x1x1, .i1⟩
  | 28 => ⟨S32x8192x2x1x1, .i1⟩
  | 29 => ⟨S_, .i1⟩
  | 30 => ⟨S32x8192x2x1, .i1⟩
  | 31 => ⟨S32x8192x2x1, .f32⟩
  | 32 => ⟨S_, .f32⟩
  | 33 => ⟨S32x8192x2x1, .f32⟩
  | 34 => ⟨S32x8192x2x1, .f32⟩
  | 35 => ⟨S32x8192x2, .f32⟩
  | 36 => ⟨S32x8192x2, .f32⟩
  | 37 => ⟨S32x8192x2, .f32⟩
  | 38 => ⟨S32x8192x2, .f32⟩
  | 39 => ⟨S_, .f32⟩
  | 40 => ⟨S32x8192, .f32⟩
  | 41 => ⟨S_, .f32⟩
  | 42 => ⟨S32x8192, .f32⟩
  | 43 => ⟨S32x8192, .f32⟩
  | 44 => ⟨S32x8192, .f32⟩
  | 45 => ⟨S_, .f32⟩
  | 46 => ⟨S_, .f32⟩
  | 47 => ⟨S_, .f32⟩
  | _ => ⟨S32x8192x34, .f32⟩

abbrev hbmTy (i : Nat) : BufTy := match i / 128 with
  | 0 => hbmTy0_0 i
  | 1 => hbmTy0_1 i
  | _ => ⟨S32x8192x34, .f32⟩

abbrev bufTy : (tb : Table) → Fin (tcTables nBuf tb) → BufTy
  | .hbm, ⟨i, _⟩ => hbmTy i
  | _, _ => ⟨S32x8192x34, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_call1_v0 : Ref sig .tc := ⟨.hbm, 51, rfl⟩
abbrev main_call1_v1 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_call2_v0 : Ref sig .tc := ⟨.hbm, 56, rfl⟩
abbrev main_call2_v1 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_call3_v0 : Ref sig .tc := ⟨.hbm, 63, rfl⟩
abbrev main_call3_v1 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_v43 : Ref sig .tc := ⟨.hbm, 68, rfl⟩
abbrev main_cst_8 : Ref sig .tc := ⟨.hbm, 69, rfl⟩
abbrev main_v44 : Ref sig .tc := ⟨.hbm, 70, rfl⟩
abbrev main_v45 : Ref sig .tc := ⟨.hbm, 71, rfl⟩
abbrev main_cst_9 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_10 : Ref sig .tc := ⟨.hbm, 81, rfl⟩
abbrev main_cst_11 : Ref sig .tc := ⟨.hbm, 82, rfl⟩
abbrev main_call4_v0 : Ref sig .tc := ⟨.hbm, 83, rfl⟩
abbrev main_call4_v1 : Ref sig .tc := ⟨.hbm, 84, rfl⟩
abbrev main_call4_v2 : Ref sig .tc := ⟨.hbm, 85, rfl⟩
abbrev main_call4_v3 : Ref sig .tc := ⟨.hbm, 86, rfl⟩
abbrev main_call4_v4 : Ref sig .tc := ⟨.hbm, 87, rfl⟩
abbrev main_v54 : Ref sig .tc := ⟨.hbm, 88, rfl⟩
abbrev main_v55 : Ref sig .tc := ⟨.hbm, 89, rfl⟩
abbrev main_call5_cst : Ref sig .tc := ⟨.hbm, 90, rfl⟩
abbrev main_call5_v0 : Ref sig .tc := ⟨.hbm, 91, rfl⟩
abbrev main_call5_cst_0 : Ref sig .tc := ⟨.hbm, 92, rfl⟩
abbrev main_call5_v1 : Ref sig .tc := ⟨.hbm, 93, rfl⟩
abbrev main_call5_v2 : Ref sig .tc := ⟨.hbm, 94, rfl⟩
abbrev main_call5_v3 : Ref sig .tc := ⟨.hbm, 95, rfl⟩
abbrev main_call5_v4 : Ref sig .tc := ⟨.hbm, 96, rfl⟩
abbrev main_call5_v5 : Ref sig .tc := ⟨.hbm, 97, rfl⟩
abbrev main_call5_v6 : Ref sig .tc := ⟨.hbm, 98, rfl⟩
abbrev main_call5_cst_1 : Ref sig .tc := ⟨.hbm, 99, rfl⟩
abbrev main_call5_v7 : Ref sig .tc := ⟨.hbm, 100, rfl⟩
abbrev main_call5_v8 : Ref sig .tc := ⟨.hbm, 101, rfl⟩
abbrev main_call5_v9 : Ref sig .tc := ⟨.hbm, 102, rfl⟩
abbrev main_call5_v10 : Ref sig .tc := ⟨.hbm, 103, rfl⟩
abbrev main_v56 : Ref sig .tc := ⟨.hbm, 104, rfl⟩
abbrev main_v57 : Ref sig .tc := ⟨.hbm, 105, rfl⟩
abbrev main_c_12 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_cst_13 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_call6_c : Ref sig .tc := ⟨.hbm, 115, rfl⟩
abbrev main_call6_v0 : Ref sig .tc := ⟨.hbm, 116, rfl⟩
abbrev main_call6_v1 : Ref sig .tc := ⟨.hbm, 117, rfl⟩
abbrev main_call6_c_0 : Ref sig .tc := ⟨.hbm, 118, rfl⟩
abbrev main_call6_v2 : Ref sig .tc := ⟨.hbm, 119, rfl⟩
abbrev main_call6_v3 : Ref sig .tc := ⟨.hbm, 120, rfl⟩
abbrev main_call6_v4 : Ref sig .tc := ⟨.hbm, 121, rfl⟩
abbrev main_call6_v5 : Ref sig .tc := ⟨.hbm, 122, rfl⟩
abbrev main_call6_c_1 : Ref sig .tc := ⟨.hbm, 123, rfl⟩
abbrev main_call6_c_2 : Ref sig .tc := ⟨.hbm, 124, rfl⟩
abbrev main_call6_v6 : Ref sig .tc := ⟨.hbm, 125, rfl⟩
abbrev main_call6_v7 : Ref sig .tc := ⟨.hbm, 126, rfl⟩
abbrev main_call6_v8 : Ref sig .tc := ⟨.hbm, 127, rfl⟩
abbrev main_call6_v9 : Ref sig .tc := ⟨.hbm, 128, rfl⟩
abbrev main_call6_v10 : Ref sig .tc := ⟨.hbm, 129, rfl⟩
abbrev main_call6_v11 : Ref sig .tc := ⟨.hbm, 130, rfl⟩
abbrev main_call6_c_3 : Ref sig .tc := ⟨.hbm, 131, rfl⟩
abbrev main_call6_v12 : Ref sig .tc := ⟨.hbm, 132, rfl⟩
abbrev main_call6_v13 : Ref sig .tc := ⟨.hbm, 133, rfl⟩
abbrev main_call6_cst : Ref sig .tc := ⟨.hbm, 134, rfl⟩
abbrev main_call6_v14 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_call7_c : Ref sig .tc := ⟨.hbm, 141, rfl⟩
abbrev main_call7_v0 : Ref sig .tc := ⟨.hbm, 142, rfl⟩
abbrev main_call7_v1 : Ref sig .tc := ⟨.hbm, 143, rfl⟩
abbrev main_call7_c_0 : Ref sig .tc := ⟨.hbm, 144, rfl⟩
abbrev main_call7_v2 : Ref sig .tc := ⟨.hbm, 145, rfl⟩
abbrev main_call7_v3 : Ref sig .tc := ⟨.hbm, 146, rfl⟩
abbrev main_call7_v4 : Ref sig .tc := ⟨.hbm, 147, rfl⟩
abbrev main_call7_v5 : Ref sig .tc := ⟨.hbm, 148, rfl⟩
abbrev main_call7_c_1 : Ref sig .tc := ⟨.hbm, 149, rfl⟩
abbrev main_call7_c_2 : Ref sig .tc := ⟨.hbm, 150, rfl⟩
abbrev main_call7_v6 : Ref sig .tc := ⟨.hbm, 151, rfl⟩
abbrev main_call7_v7 : Ref sig .tc := ⟨.hbm, 152, rfl⟩
abbrev main_call7_v8 : Ref sig .tc := ⟨.hbm, 153, rfl⟩
abbrev main_call7_v9 : Ref sig .tc := ⟨.hbm, 154, rfl⟩
abbrev main_call7_v10 : Ref sig .tc := ⟨.hbm, 155, rfl⟩
abbrev main_call7_v11 : Ref sig .tc := ⟨.hbm, 156, rfl⟩
abbrev main_call7_c_3 : Ref sig .tc := ⟨.hbm, 157, rfl⟩
abbrev main_call7_v12 : Ref sig .tc := ⟨.hbm, 158, rfl⟩
abbrev main_call7_v13 : Ref sig .tc := ⟨.hbm, 159, rfl⟩
abbrev main_call7_cst : Ref sig .tc := ⟨.hbm, 160, rfl⟩
abbrev main_call7_v14 : Ref sig .tc := ⟨.hbm, 161, rfl⟩
abbrev main_v70 : Ref sig .tc := ⟨.hbm, 162, rfl⟩
abbrev main_v71 : Ref sig .tc := ⟨.hbm, 163, rfl⟩
abbrev main_v72 : Ref sig .tc := ⟨.hbm, 164, rfl⟩
abbrev main_v73 : Ref sig .tc := ⟨.hbm, 165, rfl⟩
abbrev main_v74 : Ref sig .tc := ⟨.hbm, 166, rfl⟩
abbrev main_cst_14 : Ref sig .tc := ⟨.hbm, 167, rfl⟩
abbrev main_v75 : Ref sig .tc := ⟨.hbm, 168, rfl⟩
abbrev main_cst_15 : Ref sig .tc := ⟨.hbm, 169, rfl⟩
abbrev main_v76 : Ref sig .tc := ⟨.hbm, 170, rfl⟩
abbrev main_v77 : Ref sig .tc := ⟨.hbm, 171, rfl⟩
abbrev main_v78 : Ref sig .tc := ⟨.hbm, 172, rfl⟩
abbrev main_cst_16 : Ref sig .tc := ⟨.hbm, 173, rfl⟩
abbrev main_v79 : Ref sig .tc := ⟨.hbm, 174, rfl⟩
abbrev main_v80 : Ref sig .tc := ⟨.hbm, 175, rfl⟩

abbrev nD : Nat := 1
abbrev τ : Topo := Topo.v7x

variable {F : FTy → Type} [FloatOps F]
-- ==== Proof.LossStep.lean ====
/-
  What one grid step of the loss kernel adds to its five running sums.

  The kernel keeps five numbers in a table of eight words and never touches the other three: the count of foreground
  anchors, the sum of the box distances, the sum of the overlap losses, the sum of the box weights and the sum of the
  weighted distribution losses. A step reads six blocks and adds one number to each word.
-/
module

public import proofs.«01_k».proof.Proof.Gen.KernelIdeal.Skeleton
public import Idealize.ShloMosaic.Lib.Pipeline.FrameBody
public import Idealize.ShloMosaic.Lib.ValueIdxCore
public import Idealize.ShloMosaic.Lib.Pointwise.Index

@[expose] public section

noncomputable section

namespace Cert.Proof.Loss

open Cert.KernelIdeal Cert.KernelIdeal.Gen

open Idealize.ShloMosaic Idealize.ShloMosaic.TcCoe
open Idealize.SL Idealize.SL.Sem

variable {F : FTy → Type} [FloatOps F]

/-! ## The rectangles the step loads through -/

abbrev rLab : Rect S64x128 := Rect.unit (s := S64x128) ![0, 0] S64x128.size inb_S64x128_S64x128_0_0
abbrev rLo : Rect S2x64x128 := Rect.unit (s := S2x64x128) ![0, 0, 0] S1x64x128.size inb_S2x64x128_S1x64x128_0_0_0
abbrev rHi : Rect S2x64x128 := Rect.unit (s := S2x64x128) ![1, 0, 0] S1x64x128.size inb_S2x64x128_S1x64x128_1_0_0
abbrev rOne : Rect S1x64x128 := Rect.unit (s := S1x64x128) ![0, 0, 0] S1x64x128.size inb_S1x64x128_S1x64x128_0_0_0
abbrev rDist : Rect S34x64x128 := Rect.unit (s := S34x64x128) ![0, 0, 0] S34x64x128.size inb_S34x64x128_S34x64x128_0_0_0
abbrev rSum : Rect S1 := Rect.unit (s := S1) ![0] S1.size inb_S1_S1_0

/-- The six blocks a step reads: the distribution logits, the summed class scores, the predicted boxes, the anchor
    points, the labels and the assigned boxes. -/
structure Blocks (F : FTy → Type) where
  dist : S34x64x128.Idx → Elt F .f32
  score : S1x64x128.Idx → Elt F .f32
  pred : S2x64x128.Idx → Elt F .f32
  anchor : S1x64x128.Idx → Elt F .f32
  label : S64x128.Idx → Elt F .i32
  box : S2x64x128.Idx → Elt F .f32

namespace Blocks

variable (B : Blocks F)

/-- The labels as loaded. -/
abbrev lab := View.ld (Val := Elt F) (e' := .i32) B.label rLab
/-- The two coordinates of the predicted boxes as loaded. -/
abbrev p0 := View.ld (Val := Elt F) (e' := .f32) B.pred rLo
abbrev p1 := View.ld (Val := Elt F) (e' := .f32) B.pred rHi
/-- The two coordinates of the assigned boxes as loaded. -/
abbrev a0 := View.ld (Val := Elt F) (e' := .f32) B.box rLo
abbrev a1 := View.ld (Val := Elt F) (e' := .f32) B.box rHi
abbrev pts := View.ld (Val := Elt F) (e' := .f32) B.anchor rOne
abbrev scr := View.ld (Val := Elt F) (e' := .f32) B.score rOne
abbrev dst := View.ld (Val := Elt F) (e' := .f32) B.dist rDist
/-- The bins' numbers. -/
abbrev bins : IVec S17x64x128 32 := iota .tc S17x64x128 32 [0] iota_S17x64x128_d0_w32
/-- The left and right distances of the assigned box's ends from the anchor, clipped. -/
abbrev left := k1_pay19 (F := F) (k1_pay8 B.a0) (k1_pay10 B.pts)
abbrev right := k1_pay20 (F := F) (k1_pay9 B.a1) (k1_pay10 B.pts)

/-- The five words after the step, from the five words before it. -/
def step (w : Fin 5 → F .f32) : Fin 5 → F .f32
  | 0 => k1_pay30 (k1_pay16 (k1_pay5 B.lab)) (w 0)
  | 1 => k1_pay31 (k1_pay11 B.lab B.p0 B.p1 B.a0 B.a1) (w 1)
  | 2 => k1_pay32 (k1_pay15 (k1_pay4 (F := F) B.lab) (k1_pay12 B.p0 B.p1 B.a0 B.a1) (k1_pay13 B.p0 B.p1) (k1_pay14 B.a0 B.a1)) (w 2)
  | 3 => k1_pay33 (k1_pay18 (k1_pay5 B.lab) B.scr) (w 3)
  | 4 => k1_pay34 (k1_pay17 (k1_pay5 B.lab) B.scr) B.right
      (k1_pay24 B.left bins (k1_pay22 B.dst) (k1_pay23 B.dst)) (k1_pay26 (k1_pay21 B.dst))
      (k1_pay27 B.right) (k1_pay28 B.right (k1_pay21 B.dst) bins) (k1_pay29 B.right (k1_pay21 B.dst) bins) 1#32 (w 4)

end Blocks

/-- The five words at the start. -/
def zeros : Fin 5 → F .f32 := fun _ => Scalar.ofBits .f32 0x00000000#32

/-- The three results from the final five words and the sum of the assigned scores. -/
def finish (w : Fin 5 → F .f32) (s : F .f32) : Fin 3 → F .f32
  | 0 => k1_pay1 (w 0) (w 1)
  | 1 => k1_pay2 (w 0) s (w 2) (w 3)
  | 2 => k1_pay3 s (w 4)

/-! ## The table's words -/

/-- Word `k` of the table. -/
def word (g : S8.Idx → Elt F .f32) (k : Fin 5) : F .f32 := g (ix1 (k.castLE (by decide)))

end Cert.Proof.Loss
end
-- ==== Proof.LossRun.lean ====
/-
  One grid step of the loss kernel, run: from the six input blocks and the table of words, each held whole, it returns
  with the blocks as they were and the table's five words stepped. The first step sets the words to zero before it adds,
  and the last one also stores the three results.
-/
module

public import proofs.«01_k».proof.Proof.LossStep
public import proofs.«01_k».proof.Proof.Gen.KernelIdeal.Launch
public import proofs.«01_k».proof.Proof.Gen.KernelIdeal.Points
public import Idealize.ShloMosaic.Lib.Tactic

@[expose] public section

noncomputable section

namespace Cert.Proof.Loss

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the certificate: the pipelines' rounds and the counters. -/
abbrev UU : Type := UR sig nD τ × Counters

local notation "𝕄" => MT nD τ sig Unit (Elt F) ℕ UU ℕ

/-- The contents of memref `M`'s buffer on core `c`, and that buffer held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The table of words. -/
abbrev tab : Memref sig .tc .smem S8 .f32 := Memref.whole cc1_scratch0

/-- The first step's condition, as the kernel computes it. -/
abbrev isFirst (i : grid1.Coords) : Prop :=
  Scalar.cmpi .ne (Scalar.extui (Scalar.cmpi .eq (BitVec.ofNat 32 (i 0).val) 0#32) : BitVec 32) 0#32 = 1#1

section

variable (M1 : Memref sig .tc .vmem S34x64x128 .f32) (g1 : M1.IsWhole) (M2 : Memref sig .tc .vmem S1x64x128 .f32) (g2 : M2.IsWhole)
  (M3 : Memref sig .tc .vmem S2x64x128 .f32) (g3 : M3.IsWhole) (M4 : Memref sig .tc .vmem S1x64x128 .f32) (g4 : M4.IsWhole)
  (M5 : Memref sig .tc .vmem S64x128 .i32) (g5 : M5.IsWhole) (M6 : Memref sig .tc .vmem S2x64x128 .f32) (g6 : M6.IsWhole)
  (M7 : Memref sig .tc .smem S1 .f32) (g7 : M7.IsWhole) (M8 : Memref sig .tc .smem S1 .f32) (g8 : M8.IsWhole)
  (M9 : Memref sig .tc .smem S1 .f32) (g9 : M9.IsWhole) (M10 : Memref sig .tc .smem S1 .f32) (g10 : M10.IsWhole)
  (c : Dev nD)
  (f1 : Bf (F := F) c M1) (f2 : Bf (F := F) c M2) (f3 : Bf (F := F) c M3) (f4 : Bf (F := F) c M4) (f5 : Bf (F := F) c M5) (f6 : Bf (F := F) c M6)

/-- The blocks that six buffers hold. -/
abbrev blocksOf : Blocks F where
  dist := M1.view.read (Elt F) f1
  score := M2.view.read (Elt F) f2
  pred := M3.view.read (Elt F) f3
  anchor := M4.view.read (Elt F) f4
  label := M5.view.read (Elt F) f5
  box := M6.view.read (Elt F) f6

/-- The six input buffers held. -/
abbrev held6 : sProp 𝕄 := iprop(pt c M1 f1 ∗ pt c M2 f2 ∗ pt c M3 f3 ∗ pt c M4 f4 ∗ pt c M5 f5 ∗ pt c M6 f6)

/-- A word that the newest write stored. -/
theorem word_hit (g : Bf (F := F) c tab) (k : Fin 5) (j : ℕ) (hj : j = k.val) (h) (w : Elt F .f32) (L : List (View.Piece (Elt F) S8 .f32)) :
    word (F := F) (tab.view.writes (Elt F) g (⟨Rect.unit (s := S8) ![j] S1.size h, fun _ => w⟩ :: L)) k = w :=
  View.read_writes_cons_hit_of_coords tab.view g (Rect.unit (s := S8) ![j] S1.size h) (fun _ => w) L
    (ix1 (n0 := 1) 0 : S1.Idx) (ix1 (n0 := 8) (k.castLE (by decide))) (fun a => by
      fin_cases a
      subst hj
      show k.val = k.val + 1 * 0
      omega)

/-- A word that the newest write left. -/
theorem word_miss (g : Bf (F := F) c tab) (k : Fin 5) (j : ℕ) (hj : j ≠ k.val) (h) (w : S1.Idx → Elt F .f32) (L : List (View.Piece (Elt F) S8 .f32)) :
    word (F := F) (tab.view.writes (Elt F) g (⟨Rect.unit (s := S8) ![j] S1.size h, w⟩ :: L)) k = word (F := F) (tab.view.writes (Elt F) g L) k :=
  View.read_writes_cons_miss_of_axis tab.view g ⟨Rect.unit (s := S8) ![j] S1.size h, w⟩ L _ 0 j 1 rfl rfl rfl (by
    show k.val < j ∨ j + 1 ≤ k.val
    omega)

/-- A load of a word from the table. -/
theorem word_load (g : Bf (F := F) c tab) (k : Fin 5) (j : ℕ) (hj : j = k.val) (h) (x : S1.Idx) :
    View.readAt (Elt F) tab.view (Rect.unit (s := S8) ![j] S1.size h).toLoadRect g x = word (F := F) g k := by
  subst hj
  refine congrArg g (funext fun a => ?_)
  fin_cases a
  apply Fin.ext
  have hx : (x 0).val = 0 := by have := (x 0).isLt; simpa using this
  show k.val + 1 * (x 0).val = k.val
  omega

/-- Five stores, one to each word, leave the five stored numbers, whatever was stored before them. -/
theorem words_after (g : Bf (F := F) c tab) (L : List (View.Piece (Elt F) S8 .f32)) (v0 v1 v2 v3 v4 : F .f32) (h0) (h1) (h2) (h3) (h4)
    (w : Fin 5 → F .f32) (e0 : v0 = w 0) (e1 : v1 = w 1) (e2 : v2 = w 2) (e3 : v3 = w 3) (e4 : v4 = w 4) :
    word (F := F) (tab.view.writes (Elt F) g
      (⟨Rect.unit (s := S8) ![4] S1.size h4, fun _ => v4⟩ :: ⟨Rect.unit (s := S8) ![3] S1.size h3, fun _ => v3⟩
        :: ⟨Rect.unit (s := S8) ![2] S1.size h2, fun _ => v2⟩ :: ⟨Rect.unit (s := S8) ![1] S1.size h1, fun _ => v1⟩
        :: ⟨Rect.unit (s := S8) ![0] S1.size h0, fun _ => v0⟩ :: L)) = w := by
  funext k
  fin_cases k
  · exact (word_miss c g 0 4 (by decide) ..).trans <| (word_miss c g 0 3 (by decide) ..).trans <| (word_miss c g 0 2 (by decide) ..).trans <|
      (word_miss c g 0 1 (by decide) ..).trans <| (word_hit c g 0 0 rfl ..).trans e0
  · exact (word_miss c g 1 4 (by decide) ..).trans <| (word_miss c g 1 3 (by decide) ..).trans <| (word_miss c g 1 2 (by decide) ..).trans <|
      (word_hit c g 1 1 rfl ..).trans e1
  · exact (word_miss c g 2 4 (by decide) ..).trans <| (word_miss c g 2 3 (by decide) ..).trans <| (word_hit c g 2 2 rfl ..).trans e2
  · exact (word_miss c g 3 4 (by decide) ..).trans <| (word_hit c g 3 3 rfl ..).trans e3
  · exact (word_hit c g 4 4 rfl ..).trans e4

/-- A step that is neither the first nor the last. -/
theorem run_mid (i : grid1.Coords) (h1 : ¬ isFirst i) (h2 : ¬ k1_cond2 i = 1#1) (g : Bf (F := F) c tab) (E : Set ℕ) (Q : PUnit → sProp 𝕄) :
    iprop(held6 M1 M2 M3 M4 M5 M6 c f1 f2 f3 f4 f5 f6 ∗ pt c tab g
        ∗ (∀ g' : Bf (F := F) c tab, iprop(held6 M1 M2 M3 M4 M5 M6 c f1 f2 f3 f4 f5 f6
            ∗ ⌜word (F := F) g' = (blocksOf M1 M2 M3 M4 M5 M6 c f1 f2 f3 f4 f5 f6).step (word (F := F) g)⌝ ∗ pt c tab g') -∗ Q ⟨⟩))
      ⊢ wp frame (wpE (defs₀ (F := F)) Variants.none c none) E
          (cc1__loss_body i M1 g1 M2 g2 M3 g3 M4 g4 M5 g5 M6 g6 M7 g7 M8 g8 M9 g9 M10 g10 tab (Memref.isWhole_whole _)) Q := by
  iintro ⟨⟨H1, H2, H3, H4, H5, H6⟩, HS, Hk⟩
  sl_exec_parts
  sl_step
  iapply Hk
  isplitl [H1 H2 H3 H4 H5 H6]
  · isplitl [H1]; · iexact H1
    isplitl [H2]; · iexact H2
    isplitl [H3]; · iexact H3
    isplitl [H4]; · iexact H4
    isplitl [H5]; · iexact H5
    iexact H6
  isplitr; swap; · iexact HS
  ipureintro
  exact words_after c g [] _ _ _ _ _ _ _ _ _ _ _ (congrArg (k1_pay30 _) (word_load c g 0 0 rfl _ _)) (congrArg (k1_pay31 _) (word_load c g 1 1 rfl _ _))
    (congrArg (k1_pay32 _) (word_load c g 2 2 rfl _ _)) (congrArg (k1_pay33 _) (word_load c g 3 3 rfl _ _))
    (congrArg (k1_pay34 _ _ _ _ _ _ _ _) (word_load c g 4 4 rfl _ _))

/-- The first step: the words start from zero, whatever the table held. -/
theorem run_first (i : grid1.Coords) (h1 : isFirst i) (h2 : ¬ k1_cond2 i = 1#1) (g : Bf (F := F) c tab) (E : Set ℕ) (Q : PUnit → sProp 𝕄) :
    iprop(held6 M1 M2 M3 M4 M5 M6 c f1 f2 f3 f4 f5 f6 ∗ pt c tab g
        ∗ (∀ g' : Bf (F := F) c tab, iprop(held6 M1 M2 M3 M4 M5 M6 c f1 f2 f3 f4 f5 f6
            ∗ ⌜word (F := F) g' = (blocksOf M1 M2 M3 M4 M5 M6 c f1 f2 f3 f4 f5 f6).step zeros⌝ ∗ pt c tab g') -∗ Q ⟨⟩))
      ⊢ wp frame (wpE (defs₀ (F := F)) Variants.none c none) E
          (cc1__loss_body i M1 g1 M2 g2 M3 g3 M4 g4 M5 g5 M6 g6 M7 g7 M8 g8 M9 g9 M10 g10 tab (Memref.isWhole_whole _)) Q := by
  iintro ⟨⟨H1, H2, H3, H4, H5, H6⟩, HS, Hk⟩
  sl_exec_parts
  sl_step
  iapply Hk
  isplitl [H1 H2 H3 H4 H5 H6]
  · isplitl [H1]; · iexact H1
    isplitl [H2]; · iexact H2
    isplitl [H3]; · iexact H3
    isplitl [H4]; · iexact H4
    isplitl [H5]; · iexact H5
    iexact H6
  isplitr; swap; · iexact HS
  ipureintro
  exact words_after c g _ _ _ _ _ _ _ _ _ _ _ _ rfl rfl rfl rfl rfl

/-- A store to the only element of a one-word buffer leaves the stored number. -/
theorem read_stored (M : Memref sig .tc .smem S1 .f32) (f : Bf (F := F) c M) (v : F .f32) (L : List (View.Piece (Elt F) S1 .f32)) :
    M.view.read (Elt F) (M.view.writes (Elt F) f (⟨rSum, fun _ => v⟩ :: L)) = fun _ => v := by
  funext y
  refine View.read_writes_cons_hit_of_coords M.view f rSum (fun _ => v) L (y : S1.Idx) y fun a => ?_
  fin_cases a
  show (y 0).val = 0 + 1 * (y 0).val
  omega

/-- The load of the sum of the scores. -/
theorem load_sum (M : Memref sig .tc .smem S1 .f32) (f : Bf (F := F) c M) (x : S1.Idx) :
    View.readAt (Elt F) M.view rSum.toLoadRect f x = M.view.read (Elt F) f (ix1 0) := by
  refine congrArg (M.view.read (Elt F) f) (funext fun a => ?_)
  fin_cases a
  apply Fin.ext
  have hx : (x 0).val = 0 := by have := (x 0).isLt; simpa using this
  show 0 + 1 * (x 0).val = 0
  omega

theorem second_congr {a a' b b' d d' e e' : F .f32} (ha : a = a') (hb : b = b') (hd : d = d') (he : e = e') :
    k1_pay2 a b d e = k1_pay2 a' b' d' e' := by subst ha hb hd he; rfl

/-- The last step: beside stepping the words it stores the three results. -/
theorem run_last (i : grid1.Coords) (h1 : ¬ isFirst i) (h2 : k1_cond2 i = 1#1) (f7 : Bf (F := F) c M7) (f8 : Bf (F := F) c M8) (f9 : Bf (F := F) c M9) (f10 : Bf (F := F) c M10) (g : Bf (F := F) c tab) (E : Set ℕ) (Q : PUnit → sProp 𝕄) :
    iprop(held6 M1 M2 M3 M4 M5 M6 c f1 f2 f3 f4 f5 f6 ∗ pt c M7 f7 ∗ pt c M8 f8 ∗ pt c M9 f9 ∗ pt c M10 f10 ∗ pt c tab g
        ∗ (∀ g' : Bf (F := F) c tab, iprop(held6 M1 M2 M3 M4 M5 M6 c f1 f2 f3 f4 f5 f6
            ∗ pt c M7 f7
            ∗ (∃ f, ⌜M8.view.read (Elt F) f = fun _ => finish ((blocksOf M1 M2 M3 M4 M5 M6 c f1 f2 f3 f4 f5 f6).step (word (F := F) g)) (M7.view.read (Elt F) f7 (ix1 0)) 0⌝ ∗ pt c M8 f)
            ∗ (∃ f, ⌜M9.view.read (Elt F) f = fun _ => finish ((blocksOf M1 M2 M3 M4 M5 M6 c f1 f2 f3 f4 f5 f6).step (word (F := F) g)) (M7.view.read (Elt F) f7 (ix1 0)) 1⌝ ∗ pt c M9 f)
            ∗ (∃ f, ⌜M10.view.read (Elt F) f = fun _ => finish ((blocksOf M1 M2 M3 M4 M5 M6 c f1 f2 f3 f4 f5 f6).step (word (F := F) g)) (M7.view.read (Elt F) f7 (ix1 0)) 2⌝ ∗ pt c M10 f)
            ∗ pt c tab g') -∗ Q ⟨⟩))
      ⊢ wp frame (wpE (defs₀ (F := F)) Variants.none c none) E
          (cc1__loss_body i M1 g1 M2 g2 M3 g3 M4 g4 M5 g5 M6 g6 M7 g7 M8 g8 M9 g9 M10 g10 tab (Memref.isWhole_whole _)) Q := by
  have l0 := word_load c g 0 0 rfl inb_S8_S1_0 (Shape.Idx.first (by decide))
  have l1 := word_load c g 1 1 rfl inb_S8_S1_1 (Shape.Idx.first (by decide))
  have l2 := word_load c g 2 2 rfl inb_S8_S1_2 (Shape.Idx.first (by decide))
  have l3 := word_load c g 3 3 rfl inb_S8_S1_3 (Shape.Idx.first (by decide))
  have l4 := word_load c g 4 4 rfl inb_S8_S1_4 (Shape.Idx.first (by decide))
  have ls := load_sum c M7 f7 (Shape.Idx.first (by decide))
  iintro ⟨⟨H1, H2, H3, H4, H5, H6⟩, H7, H8, H9, H10, HS, Hk⟩
  sl_exec_parts
  sl_step
  iapply Hk
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [H7]; · iexact H7
  isplitl [H8]
  · iexists _; isplitr; swap; · iexact H8
    ipureintro
    exact (read_stored c M8 f8 _ []).trans (funext fun _ => congrArg₂ k1_pay1 (congrArg (k1_pay30 _) l0) (congrArg (k1_pay31 _) l1))
  isplitl [H9]
  · iexists _; isplitr; swap; · iexact H9
    ipureintro
    exact (read_stored c M9 f9 _ []).trans (funext fun _ => second_congr (congrArg (k1_pay30 _) l0) ls (congrArg (k1_pay32 _) l2) (congrArg (k1_pay33 _) l3))
  isplitl [H10]
  · iexists _; isplitr; swap; · iexact H10
    ipureintro
    exact (read_stored c M10 f10 _ []).trans (funext fun _ => congrArg₂ k1_pay3 ls (congrArg (k1_pay34 _ _ _ _ _ _ _ _) l4))
  iexact HS

end
end Cert.Proof.Loss
end
-- ==== Proof.FmtRun.lean ====
/-
  The first kernel: one grid step sums a block's rows of eighty class scores. Its run, its proof data and its body
  obligation, from any contents of the arrays.
-/
module

public import proofs.«01_k».proof.Proof.LossRun

@[expose] public section

noncomputable section

namespace Cert.Proof.Loss

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

/-- A whole memref owned at `X` is its buffer held at contents that read `X`. -/
theorem owns_pt (c : Dev nD) {sp : Space} {S : Shape} {e : EltTy} {M : Memref sig .tc sp S e} (h : M.IsWhole) (X : S.Idx → Elt F e) :
    (owns (c : Thread nD τ) M fullShare X : sProp 𝕄) = iprop(∃ f, ⌜M.view.read (Elt F) f = X⌝ ∗ pt c M f) := by
  unfold owns
  rw [Memref.IsWhole.set_eq_univ h]

abbrev rRows : Rect S8192x80 := Rect.unit (s := S8192x80) ![0, 0] S8192x80.size inb_S8192x80_S8192x80_0_0

/-- What a step stores, from the block it reads. -/
def rowSums (X : S8192x80.Idx → Elt F .f32) : S1x64x128.Idx → Elt F .f32 :=
  k0_pay1 (View.ld (Val := Elt F) (e' := .f32) X rRows)

/-- A store of a whole block leaves the stored block. -/
theorem read_stored_block (c : Dev nD) (M : Memref sig .tc .vmem S1x64x128 .f32) (f : Bf (F := F) c M) (v : S1x64x128.Idx → Elt F .f32) :
    M.view.read (Elt F) (M.view.writes (Elt F) f [⟨rOne, v⟩]) = v := by
  funext y
  refine View.read_writes_cons_hit_of_coords M.view f rOne v [] (y : S1x64x128.Idx) y fun a => ?_
  fin_cases a
  · show (y 0).val = 0 + 1 * (y 0).val
    omega
  · show (y 1).val = 0 + 1 * (y 1).val
    omega
  · show (y 2).val = 0 + 1 * (y 2).val
    omega

/-- One step, run. -/
theorem fmt_run (c : Dev nD) (i : grid0.Coords) (M1 : Memref sig .tc .vmem S8192x80 .f32) (g1 : M1.IsWhole)
    (M2 : Memref sig .tc .vmem S1x64x128 .f32) (g2 : M2.IsWhole) (f1 : Bf (F := F) c M1) (f2 : Bf (F := F) c M2) (E : Set ℕ) (Q : PUnit → sProp 𝕄) :
    iprop(pt c M1 f1 ∗ pt c M2 f2
        ∗ (iprop(pt c M1 f1 ∗ (∃ f, ⌜M2.view.read (Elt F) f = rowSums (M1.view.read (Elt F) f1)⌝ ∗ pt c M2 f)) -∗ Q ⟨⟩))
      ⊢ wp frame (wpE (defs₀ (F := F)) Variants.none c none) E (cc0__fmt_body i M1 g1 M2 g2) Q := by
  iintro ⟨H1, H2, Hk⟩
  sl_exec_parts
  sl_step
  iapply Hk
  isplitl [H1]; · iexact H1
  iexists _; isplitr; swap; · iexact H2
  ipureintro
  exact read_stored_block c M2 f2 _

/-! ## The proof data, at any entry valuation -/

variable (V : (c : Dev nD) → (b : Ref sig .tc) → Buf (Elt F) ((c : Thread nD τ).loc b))

/-- The block of rows that step `t` reads. -/
abbrev rows (c : Dev nD) (t : Fin cfg0.N) : S8192x80.Idx → Elt F .f32 :=
  ((cfg0.win 0).blk t).view.read (Elt F) (V c main_call0_v0)

/-- The buffers of the second kernel, which wait. -/
abbrev rest0 (c : Dev nD) : sProp 𝕄 := Pipeline.scopedRest (Ix := Unit) (Name := ℕ) (U := UU) (Lvl := ℕ) (Val := Elt F) spec0 c

/-- The proof data: after a step the rows' buffer is as fetched and the result's holds the sums. -/
def dat0 (c : Dev nD) : Dat τ (Elt F) Unit ℕ UU ℕ cfg0 c where
  A w := V c (Pipeline.arrRef spec0 w)
  after w t := match w with
    | ⟨0, _⟩ => rows V c t
    | ⟨1, _⟩ => rowSums (rows V c t)
  Φ _ := rest0 c
  q _ := fullShare
  owed _ := 0

theorem before0 (c : Dev nD) (t : Fin cfg0.N) (d) : (dat0 V c).before 0 t d = rows V c t :=
  ((dat0 V c).before_in_eq_fetched 0 rfl (fun _ => rfl) (fun _ _ _ => rfl) (fun _ => rfl) t d).trans rfl

theorem body0 (c : Dev nD) : BodyObligation (dat0 V c) (defs₀ (F := F)) Variants.none () Set.univ := fun t => by
  rw [bigSep_W0, bigSep_W0]
  rw [show (dat0 V c).Φ t.castSucc = rest0 c from rfl, show (dat0 V c).Φ t.succ = rest0 c from rfl,
    show (dat0 V c).owesAt () t.succ = (dat0 V c).owesAt () t.castSucc from rfl]
  show iprop(rest0 c ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d)))
    ⊢ wp frame (wpE (defs₀ (F := F)) Variants.none c none) Set.univ (bodyAt0 t) fun _ =>
      iprop(rest0 c ∗ (dat0 V c).owesAt () t.castSucc
        ∗ owns (c : Thread nD τ) (st0_0 t) fullShare (rows V c t)
        ∗ owns (c : Thread nD τ) (st0_1 t) fullShare (rowSums (rows V c t)))
  have e0 (X) : (owns (c : Thread nD τ) (st0_0 t) fullShare X : sProp 𝕄) = iprop(∃ f, ⌜(st0_0 t).view.read (Elt F) f = X⌝ ∗ pt c (st0_0 t) f) :=
    owns_pt (F := F) c (hstage0_0 ((cfg0.slots t 0).cast nbuf0_0)) X
  have e1 (X) : (owns (c : Thread nD τ) (st0_1 t) fullShare X : sProp 𝕄) = iprop(∃ f, ⌜(st0_1 t).view.read (Elt F) f = X⌝ ∗ pt c (st0_1 t) f) :=
    owns_pt (F := F) c (hstage0_1 ((cfg0.slots t 1).cast nbuf0_1)) X
  iintro ⟨HΦ, Howes, ⟨%d0, H0⟩, ⟨%d1, H1⟩⟩
  rw [before0]
  ihave H0 := (Entails.of_eq (e0 _)) $$ H0
  ihave H1 := (Entails.of_eq (e1 _)) $$ H1
  icases H0 with ⟨%f0, %hf0, H0⟩
  icases H1 with ⟨%f1, -, H1⟩
  iapply (fmt_run c _ _ _ _ _ f0 f1 Set.univ _)
  isplitl [H0]; · iexact H0
  isplitl [H1]; · iexact H1
  iintro ⟨H0, %f, %hf, H1⟩
  isplitl [HΦ]; · iexact HΦ
  isplitl [Howes]; · iexact Howes
  isplitl [H0]
  · iapply (Entails.of_eq (e0 _).symm)
    iexists f0; isplitr; · ipureintro; exact hf0
    iexact H0
  iapply (Entails.of_eq (e1 _).symm)
  iexists f; isplitr
  · ipureintro; rw [hf]; exact congrArg rowSums hf0
  iexact H1

end Cert.Proof.Loss
end
-- ==== Proof.LossBody.lean ====
/-
  The loss kernel's proof data and body obligation: between two grid steps the table's words are the running sums over
  the blocks already read, and the three results are stored at the last step from the final words.
-/
module

public import proofs.«01_k».proof.Proof.FmtRun

@[expose] public section

noncomputable section

namespace Cert.Proof.Loss

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

/-- Which step is the first, and which the last. -/
theorem first_iff : ∀ t : Fin grid1.N, isFirst (grid1.coords t) ↔ t.val = 0 := by decide +kernel
theorem last_iff : ∀ t : Fin grid1.N, k1_cond2 (grid1.coords t) = 1#1 ↔ t.val = 31 := by decide +kernel

variable (V : (c : Dev nD) → (b : Ref sig .tc) → Buf (Elt F) ((c : Thread nD τ).loc b))

/-- The six blocks that step `t` reads. -/
def blocksAt (c : Dev nD) (t : Fin cfg1.N) : Blocks F where
  dist := ((cfg1.win 0).blk t).view.read (Elt F) (V c main_call0_v3)
  score := ((cfg1.win 1).blk t).view.read (Elt F) (V c main_call0_v1)
  pred := ((cfg1.win 2).blk t).view.read (Elt F) (V c main_call0_v5)
  anchor := ((cfg1.win 3).blk t).view.read (Elt F) (V c main_call0_v9)
  label := ((cfg1.win 4).blk t).view.read (Elt F) (V c main_call0_v10)
  box := ((cfg1.win 5).blk t).view.read (Elt F) (V c main_call0_v7)

/-- The buffer of the scores' sum at step `t`. -/
abbrev sumAt (c : Dev nD) (t : Fin cfg1.N) : S1.Idx → Elt F .f32 :=
  ((cfg1.win 6).blk t).view.read (Elt F) (V c main_call0_v11)

/-- The words after `n` steps. -/
def words (c : Dev nD) : ℕ → Fin 5 → F .f32
  | 0 => zeros
  | n + 1 => if h : n < cfg1.N then (blocksAt V c ⟨n, h⟩).step (words c n) else words c n

theorem words_succ (c : Dev nD) (t : Fin cfg1.N) : words V c (t.val + 1) = (blocksAt V c t).step (words V c t.val) := by
  rw [words, dif_pos t.isLt]

/-- The first kernel's four buffers, which wait. -/
abbrev rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- Between steps: the waiting buffers, and the table with the words so far. Before the first step and after
    the last the table holds anything. -/
def inv1 (c : Dev nD) (n : ℕ) : sProp 𝕄 :=
  iprop(rest1 c ∗ ∃ g : Bf (F := F) c tab, ⌜n ≠ 0 ∧ n ≠ 32 → word (F := F) g = words V c n⌝ ∗ pt c tab g)

/-- The proof data: the inputs' buffers stay as fetched, and the last step leaves the three results. -/
def dat1 (c : Dev nD) : Dat τ (Elt F) Unit ℕ UU ℕ cfg1 c where
  A w := V c (Pipeline.arrRef spec1 w)
  after w t := match w with
    | ⟨0, _⟩ => (blocksAt V c t).dist
    | ⟨1, _⟩ => (blocksAt V c t).score
    | ⟨2, _⟩ => (blocksAt V c t).pred
    | ⟨3, _⟩ => (blocksAt V c t).anchor
    | ⟨4, _⟩ => (blocksAt V c t).label
    | ⟨5, _⟩ => (blocksAt V c t).box
    | ⟨6, _⟩ => sumAt V c t
    | ⟨7, _⟩ => fun _ => finish (words V c 32) (sumAt V c t (ix1 0)) 0
    | ⟨8, _⟩ => fun _ => finish (words V c 32) (sumAt V c t (ix1 0)) 1
    | ⟨9, _⟩ => fun _ => finish (words V c 32) (sumAt V c t (ix1 0)) 2
  Φ t := inv1 V c t.val
  q _ := fullShare
  owed _ := 0

theorem before1_0 (c : Dev nD) (t : Fin cfg1.N) (d) : (dat1 V c).before 0 t d = (blocksAt V c t).dist :=
  ((dat1 V c).before_in_eq_fetched 0 rfl (fun _ => rfl) (fun _ _ _ => rfl) (fun _ => rfl) t d).trans rfl
theorem before1_1 (c : Dev nD) (t : Fin cfg1.N) (d) : (dat1 V c).before 1 t d = (blocksAt V c t).score :=
  ((dat1 V c).before_in_eq_fetched 1 rfl (fun _ => rfl) (fun _ _ _ => rfl) (fun _ => rfl) t d).trans rfl
theorem before1_2 (c : Dev nD) (t : Fin cfg1.N) (d) : (dat1 V c).before 2 t d = (blocksAt V c t).pred :=
  ((dat1 V c).before_in_eq_fetched 2 rfl (fun _ => rfl) (fun _ _ _ => rfl) (fun _ => rfl) t d).trans rfl
theorem before1_3 (c : Dev nD) (t : Fin cfg1.N) (d) : (dat1 V c).before 3 t d = (blocksAt V c t).anchor :=
  ((dat1 V c).before_in_eq_fetched 3 rfl (fun _ => rfl) (fun _ _ _ => rfl) (fun _ => rfl) t d).trans rfl
theorem before1_4 (c : Dev nD) (t : Fin cfg1.N) (d) : (dat1 V c).before 4 t d = (blocksAt V c t).label :=
  ((dat1 V c).before_in_eq_fetched 4 rfl (fun _ => rfl) (fun _ _ _ => rfl) (fun _ => rfl) t d).trans rfl
theorem before1_5 (c : Dev nD) (t : Fin cfg1.N) (d) : (dat1 V c).before 5 t d = (blocksAt V c t).box :=
  ((dat1 V c).before_in_eq_fetched 5 rfl (fun _ => rfl) (fun _ _ _ => rfl) (fun _ => rfl) t d).trans rfl
theorem before1_6 (c : Dev nD) (t : Fin cfg1.N) (d) : (dat1 V c).before 6 t d = sumAt V c t :=
  ((dat1 V c).before_in_eq_fetched 6 rfl (fun _ => rfl) (fun _ _ _ => rfl) (fun _ => rfl) t d).trans rfl

set_option maxHeartbeats 4000000 in
/-- A step's body does what the proof data say. -/
theorem body1 (c : Dev nD) : BodyObligation (dat1 V c) (defs₀ (F := F)) Variants.none () Set.univ := fun t => by
  have hN : t.val < 32 := t.isLt
  rw [bigSep_W1, bigSep_W1]
  rw [show (dat1 V c).Φ t.castSucc = inv1 V c t.val from rfl, show (dat1 V c).Φ t.succ = inv1 V c (t.val + 1) from rfl,
    show (dat1 V c).owesAt () t.succ = (dat1 V c).owesAt () t.castSucc from rfl]
  show iprop(inv1 V c t.val ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d))
      ∗ (∃ d, owns (c : Thread nD τ) (st1_4 t) fullShare ((dat1 V c).before 4 t d))
      ∗ (∃ d, owns (c : Thread nD τ) (st1_5 t) fullShare ((dat1 V c).before 5 t d))
      ∗ (∃ d, owns (c : Thread nD τ) (st1_6 t) fullShare ((dat1 V c).before 6 t d))
      ∗ (∃ d, owns (c : Thread nD τ) (st1_7 t) fullShare ((dat1 V c).before 7 t d))
      ∗ (∃ d, owns (c : Thread nD τ) (st1_8 t) fullShare ((dat1 V c).before 8 t d))
      ∗ (∃ d, owns (c : Thread nD τ) (st1_9 t) fullShare ((dat1 V c).before 9 t d)))
    ⊢ wp frame (wpE (defs₀ (F := F)) Variants.none c none) Set.univ (bodyAt1 t) fun _ =>
      iprop(inv1 V c (t.val + 1) ∗ (dat1 V c).owesAt () t.castSucc
        ∗ owns (c : Thread nD τ) (st1_0 t) fullShare ((blocksAt V c t).dist)
        ∗ owns (c : Thread nD τ) (st1_1 t) fullShare ((blocksAt V c t).score)
        ∗ owns (c : Thread nD τ) (st1_2 t) fullShare ((blocksAt V c t).pred)
        ∗ owns (c : Thread nD τ) (st1_3 t) fullShare ((blocksAt V c t).anchor)
        ∗ owns (c : Thread nD τ) (st1_4 t) fullShare ((blocksAt V c t).label)
        ∗ owns (c : Thread nD τ) (st1_5 t) fullShare ((blocksAt V c t).box)
        ∗ owns (c : Thread nD τ) (st1_6 t) fullShare (sumAt V c t)
        ∗ (dat1 V c).leavesExact 7 t
        ∗ (dat1 V c).leavesExact 8 t
        ∗ (dat1 V c).leavesExact 9 t)
  have e0 (X) : (owns (c : Thread nD τ) (st1_0 t) fullShare X : sProp 𝕄) = iprop(∃ f, ⌜(st1_0 t).view.read (Elt F) f = X⌝ ∗ pt c (st1_0 t) f) :=
    owns_pt (F := F) c (hstage1_0 ((cfg1.slots t 0).cast nbuf1_0)) X
  have e1 (X) : (owns (c : Thread nD τ) (st1_1 t) fullShare X : sProp 𝕄) = iprop(∃ f, ⌜(st1_1 t).view.read (Elt F) f = X⌝ ∗ pt c (st1_1 t) f) :=
    owns_pt (F := F) c (hstage1_1 ((cfg1.slots t 1).cast nbuf1_1)) X
  have e2 (X) : (owns (c : Thread nD τ) (st1_2 t) fullShare X : sProp 𝕄) = iprop(∃ f, ⌜(st1_2 t).view.read (Elt F) f = X⌝ ∗ pt c (st1_2 t) f) :=
    owns_pt (F := F) c (hstage1_2 ((cfg1.slots t 2).cast nbuf1_2)) X
  have e3 (X) : (owns (c : Thread nD τ) (st1_3 t) fullShare X : sProp 𝕄) = iprop(∃ f, ⌜(st1_3 t).view.read (Elt F) f = X⌝ ∗ pt c (st1_3 t) f) :=
    owns_pt (F := F) c (hstage1_3 ((cfg1.slots t 3).cast nbuf1_3)) X
  have e4 (X) : (owns (c : Thread nD τ) (st1_4 t) fullShare X : sProp 𝕄) = iprop(∃ f, ⌜(st1_4 t).view.read (Elt F) f = X⌝ ∗ pt c (st1_4 t) f) :=
    owns_pt (F := F) c (hstage1_4 ((cfg1.slots t 4).cast nbuf1_4)) X
  have e5 (X) : (owns (c : Thread nD τ) (st1_5 t) fullShare X : sProp 𝕄) = iprop(∃ f, ⌜(st1_5 t).view.read (Elt F) f = X⌝ ∗ pt c (st1_5 t) f) :=
    owns_pt (F := F) c (hstage1_5 ((cfg1.slots t 5).cast nbuf1_5)) X
  have e6 (X) : (owns (c : Thread nD τ) (st1_6 t) fullShare X : sProp 𝕄) = iprop(∃ f, ⌜(st1_6 t).view.read (Elt F) f = X⌝ ∗ pt c (st1_6 t) f) :=
    owns_pt (F := F) c (hstage1_6 ((cfg1.slots t 6).cast nbuf1_6)) X
  have e7 (X) : (owns (c : Thread nD τ) (st1_7 t) fullShare X : sProp 𝕄) = iprop(∃ f, ⌜(st1_7 t).view.read (Elt F) f = X⌝ ∗ pt c (st1_7 t) f) :=
    owns_pt (F := F) c (hstage1_7 ((cfg1.slots t 7).cast nbuf1_7)) X
  have e8 (X) : (owns (c : Thread nD τ) (st1_8 t) fullShare X : sProp 𝕄) = iprop(∃ f, ⌜(st1_8 t).view.read (Elt F) f = X⌝ ∗ pt c (st1_8 t) f) :=
    owns_pt (F := F) c (hstage1_8 ((cfg1.slots t 8).cast nbuf1_8)) X
  have e9 (X) : (owns (c : Thread nD τ) (st1_9 t) fullShare X : sProp 𝕄) = iprop(∃ f, ⌜(st1_9 t).view.read (Elt F) f = X⌝ ∗ pt c (st1_9 t) f) :=
    owns_pt (F := F) c (hstage1_9 ((cfg1.slots t 9).cast nbuf1_9)) X
  unfold inv1
  iintro ⟨⟨HR, %g, %hg, HT⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before1_0, before1_1, before1_2, before1_3, before1_4, before1_5, before1_6]
  ihave H0 := (Entails.of_eq (e0 _)) $$ H0
  ihave H1 := (Entails.of_eq (e1 _)) $$ H1
  ihave H2 := (Entails.of_eq (e2 _)) $$ H2
  ihave H3 := (Entails.of_eq (e3 _)) $$ H3
  ihave H4 := (Entails.of_eq (e4 _)) $$ H4
  ihave H5 := (Entails.of_eq (e5 _)) $$ H5
  ihave H6 := (Entails.of_eq (e6 _)) $$ H6
  icases H0 with ⟨%f0, %hf0, H0⟩
  icases H1 with ⟨%f1, %hf1, H1⟩
  icases H2 with ⟨%f2, %hf2, H2⟩
  icases H3 with ⟨%f3, %hf3, H3⟩
  icases H4 with ⟨%f4, %hf4, H4⟩
  icases H5 with ⟨%f5, %hf5, H5⟩
  icases H6 with ⟨%f6, %hf6, H6⟩
  have hblk : blocksOf (st1_0 t) (st1_1 t) (st1_2 t) (st1_3 t) (st1_4 t) (st1_5 t) c f0 f1 f2 f3 f4 f5 = blocksAt V c t := by
    unfold blocksOf; rw [hf0, hf1, hf2, hf3, hf4, hf5]
  have give : (held6 (st1_0 t) (st1_1 t) (st1_2 t) (st1_3 t) (st1_4 t) (st1_5 t) c f0 f1 f2 f3 f4 f5 : sProp 𝕄) ⊢ iprop(owns (c : Thread nD τ) (st1_0 t) fullShare ((blocksAt V c t).dist)
        ∗ owns (c : Thread nD τ) (st1_1 t) fullShare ((blocksAt V c t).score)
        ∗ owns (c : Thread nD τ) (st1_2 t) fullShare ((blocksAt V c t).pred)
        ∗ owns (c : Thread nD τ) (st1_3 t) fullShare ((blocksAt V c t).anchor)
        ∗ owns (c : Thread nD τ) (st1_4 t) fullShare ((blocksAt V c t).label)
        ∗ owns (c : Thread nD τ) (st1_5 t) fullShare ((blocksAt V c t).box)) := by
    iintro ⟨H0, H1, H2, H3, H4, H5⟩
    isplitl [H0]
    · iapply (Entails.of_eq (e0 _).symm); iexists f0; isplitr; · ipureintro; exact hf0
      iexact H0
    isplitl [H1]
    · iapply (Entails.of_eq (e1 _).symm); iexists f1; isplitr; · ipureintro; exact hf1
      iexact H1
    isplitl [H2]
    · iapply (Entails.of_eq (e2 _).symm); iexists f2; isplitr; · ipureintro; exact hf2
      iexact H2
    isplitl [H3]
    · iapply (Entails.of_eq (e3 _).symm); iexists f3; isplitr; · ipureintro; exact hf3
      iexact H3
    isplitl [H4]
    · iapply (Entails.of_eq (e4 _).symm); iexists f4; isplitr; · ipureintro; exact hf4
      iexact H4
    iapply (Entails.of_eq (e5 _).symm); iexists f5; isplitr; · ipureintro; exact hf5
    iexact H5
  by_cases hlast : t.val = 31
  · have h1 : ¬ isFirst (grid1.coords t) := fun h => by have := (first_iff t).mp h; omega
    have h2 := (last_iff t).mpr hlast
    have hidle : (!(k1_cond2 (grid1.coords t) == 1#1)) = false := by rw [h2]; rfl
    have i7 : (dat1 V c).leavesExact 7 t = owns (c : Thread nD τ) (st1_7 t) fullShare ((dat1 V c).after 7 t) := by
      unfold Dat.leavesExact; rw [show cfg1.idle 7 (cfg1.grid.coords t) = false from hidle]
    have i8 : (dat1 V c).leavesExact 8 t = owns (c : Thread nD τ) (st1_8 t) fullShare ((dat1 V c).after 8 t) := by
      unfold Dat.leavesExact; rw [show cfg1.idle 8 (cfg1.grid.coords t) = false from hidle]
    have i9 : (dat1 V c).leavesExact 9 t = owns (c : Thread nD τ) (st1_9 t) fullShare ((dat1 V c).after 9 t) := by
      unfold Dat.leavesExact; rw [show cfg1.idle 9 (cfg1.grid.coords t) = false from hidle]
    rw [i7, i8, i9]
    have hw : words V c 32 = (blocksOf (st1_0 t) (st1_1 t) (st1_2 t) (st1_3 t) (st1_4 t) (st1_5 t) c f0 f1 f2 f3 f4 f5).step (word (F := F) g) := by
      rw [show (32 : ℕ) = t.val + 1 by omega, words_succ V c t, hblk, hg ⟨by omega, by omega⟩]
    have hs : (st1_6 t).view.read (Elt F) f6 (ix1 0) = sumAt V c t (ix1 0) := congrFun hf6 _
    ihave H7 := (Entails.of_eq (e7 _)) $$ H7
    ihave H8 := (Entails.of_eq (e8 _)) $$ H8
    ihave H9 := (Entails.of_eq (e9 _)) $$ H9
    icases H7 with ⟨%f7, -, H7⟩
    icases H8 with ⟨%f8, -, H8⟩
    icases H9 with ⟨%f9, -, H9⟩
    iapply (run_last (st1_0 t) _ (st1_1 t) _ (st1_2 t) _ (st1_3 t) _ (st1_4 t) _ (st1_5 t) _ (st1_6 t) _ (st1_7 t) _ (st1_8 t) _ (st1_9 t) _ c
      f0 f1 f2 f3 f4 f5 (grid1.coords t) h1 h2 f6 f7 f8 f9 g Set.univ _)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexact H6
    isplitl [H7]; · iexact H7
    isplitl [H8]; · iexact H8
    isplitl [H9]; · iexact H9
    isplitl [HT]; · iexact HT
    iintro %g' ⟨H, H6, ⟨%k7, %hk7, H7⟩, ⟨%k8, %hk8, H8⟩, ⟨%k9, %hk9, H9⟩, HT⟩
    ihave H := give $$ H
    icases H with ⟨G0, G1, G2, G3, G4, G5⟩
    isplitl [HR HT]
    · isplitl [HR]; · iexact HR
      iexists g'; isplitr; swap; · iexact HT
      ipureintro
      intro hne
      exact absurd (by omega) hne.2
    isplitl [Howes]; · iexact Howes
    isplitl [G0]; · iexact G0
    isplitl [G1]; · iexact G1
    isplitl [G2]; · iexact G2
    isplitl [G3]; · iexact G3
    isplitl [G4]; · iexact G4
    isplitl [G5]; · iexact G5
    isplitl [H6]
    · iapply (Entails.of_eq (e6 _).symm); iexists f6; isplitr; · ipureintro; exact hf6
      iexact H6
    isplitl [H7]
    · iapply (Entails.of_eq (e7 _).symm); iexists k7; isplitr; swap; · iexact H7
      ipureintro; rw [hk7, hs, ← hw]; rfl
    isplitl [H8]
    · iapply (Entails.of_eq (e8 _).symm); iexists k8; isplitr; swap; · iexact H8
      ipureintro; rw [hk8, hs, ← hw]; rfl
    iapply (Entails.of_eq (e9 _).symm); iexists k9; isplitr; swap; · iexact H9
    ipureintro; rw [hk9, hs, ← hw]; rfl
  · have hn : ¬ t.val % 32 = 31 := by omega
    have h2 : ¬ k1_cond2 (grid1.coords t) = 1#1 := fun h => hlast ((last_iff t).mp h)
    have hidle : (!(k1_cond2 (grid1.coords t) == 1#1)) = true := by simp [h2]
    have i7 : (dat1 V c).leavesExact 7 t = iprop(∃ d, owns (c : Thread nD τ) (st1_7 t) fullShare ((dat1 V c).before 7 t d)) :=
      (dat1 V c).leavesExact_idle 7 t hidle (Bool.eq_false_iff.mpr fun h => hn ((flush1_7 t).mp h))
    have i8 : (dat1 V c).leavesExact 8 t = iprop(∃ d, owns (c : Thread nD τ) (st1_8 t) fullShare ((dat1 V c).before 8 t d)) :=
      (dat1 V c).leavesExact_idle 8 t hidle (Bool.eq_false_iff.mpr fun h => hn ((flush1_8 t).mp h))
    have i9 : (dat1 V c).leavesExact 9 t = iprop(∃ d, owns (c : Thread nD τ) (st1_9 t) fullShare ((dat1 V c).before 9 t d)) :=
      (dat1 V c).leavesExact_idle 9 t hidle (Bool.eq_false_iff.mpr fun h => hn ((flush1_9 t).mp h))
    rw [i7, i8, i9]
    by_cases h0 : t.val = 0
    · iapply (run_first (st1_0 t) _ (st1_1 t) _ (st1_2 t) _ (st1_3 t) _ (st1_4 t) _ (st1_5 t) _ (st1_6 t) _ (st1_7 t) _ (st1_8 t) _ (st1_9 t) _ c
        f0 f1 f2 f3 f4 f5 (grid1.coords t) ((first_iff t).mpr h0) h2 g Set.univ _)
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [HT]; · iexact HT
      iintro %g' ⟨H, %hg', HT⟩
      ihave H := give $$ H
      icases H with ⟨G0, G1, G2, G3, G4, G5⟩
      isplitl [HR HT]
      · isplitl [HR]; · iexact HR
        iexists g'; isplitr; swap; · iexact HT
        ipureintro
        intro _
        rw [hg', words_succ V c t, hblk, h0]; rfl
      isplitl [Howes]; · iexact Howes
      isplitl [G0]; · iexact G0
      isplitl [G1]; · iexact G1
      isplitl [G2]; · iexact G2
      isplitl [G3]; · iexact G3
      isplitl [G4]; · iexact G4
      isplitl [G5]; · iexact G5
      isplitl [H6]
      · iapply (Entails.of_eq (e6 _).symm); iexists f6; isplitr; · ipureintro; exact hf6
        iexact H6
      isplitl [H7]; · iexists d7; iexact H7
      isplitl [H8]; · iexists d8; iexact H8
      iexists d9; iexact H9
    · iapply (run_mid (st1_0 t) _ (st1_1 t) _ (st1_2 t) _ (st1_3 t) _ (st1_4 t) _ (st1_5 t) _ (st1_6 t) _ (st1_7 t) _ (st1_8 t) _ (st1_9 t) _ c
        f0 f1 f2 f3 f4 f5 (grid1.coords t) (fun h => h0 ((first_iff t).mp h)) h2 g Set.univ _)
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [HT]; · iexact HT
      iintro %g' ⟨H, %hg', HT⟩
      ihave H := give $$ H
      icases H with ⟨G0, G1, G2, G3, G4, G5⟩
      isplitl [HR HT]
      · isplitl [HR]; · iexact HR
        iexists g'; isplitr; swap; · iexact HT
        ipureintro
        intro _
        rw [hg', words_succ V c t, hblk, hg ⟨h0, by omega⟩]
      isplitl [Howes]; · iexact Howes
      isplitl [G0]; · iexact G0
      isplitl [G1]; · iexact G1
      isplitl [G2]; · iexact G2
      isplitl [G3]; · iexact G3
      isplitl [G4]; · iexact G4
      isplitl [G5]; · iexact G5
      isplitl [H6]
      · iapply (Entails.of_eq (e6 _).symm); iexists f6; isplitr; · ipureintro; exact hf6
        iexact H6
      isplitl [H7]; · iexists d7; iexact H7
      isplitl [H8]; · iexists d8; iexact H8
      iexists d9; iexact H9

end Cert.Proof.Loss
end
-- ==== Proof.LossRegions.lean ====
/-
  The two kernels as regions of the program: each is entered with every unscoped buffer at a valuation and left with them
  at a valuation that differs in the kernel's results only.
-/
module

public import proofs.«01_k».proof.Proof.LossBody
public import proofs.«01_k».proof.Proof.Gen.KernelIdeal.Regions
public import Idealize.ShloMosaic.Lib.Pipeline.RegionsLoop

@[expose] public section

noncomputable section

namespace Cert.Proof.Loss

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

/-- A valuation of the core's references, on every core. -/
abbrev Vals (F : FTy → Type) : Type := (c : Dev nD) → (b : Ref sig .tc) → Buf (Elt F) ((c : Thread nD τ).loc b)

variable (Va Vb : Vals F)

/-- The proof data of the two regions, each at its own entry valuation. -/
def pdats : (p : Fin 2) → (c : Dev nD) → Dat τ (Elt F) Unit ℕ UU ℕ (cfgs p) c
  | ⟨0, _⟩ => fun c => dat0 Va c
  | ⟨1, _⟩ => fun c => dat1 Vb c

/-- No core owes another anything. -/
abbrev L : GSem nD τ sig → Finset Unit := fun _ => ∅
abbrev lv : GSem nD τ sig → Unit → ℕ := fun _ _ => 0

/-- What a core owes: nothing. -/
abbrev owesNone (c : Dev nD) : sProp 𝕄 := iprop(∃ W, owes (c : Thread nD τ) (0 : CellTallies nD τ sig Unit) W)

set_option backward.isDefEq.respectTransparency.types false in
/-- The first region. -/
def reg0 (Vp : Vals F) (hout : ∀ c, Vp c main_call0_v1 = (dat0 Va c).arrAt 1 cfg0.N)
    (hne : ∀ c (b : Ref sig .tc), b ≠ main_call0_v1 → Vp c b = Va c b) :
    Pipeline.RegionSeg (pcfgs (F := F)) adm (pdats Va Vb) () defs₀ Variants.none L lv 0 where
  win := launch0.win.to₀
  block_pos := launch0.block_pos
  stage_whole := launch0.stage_whole
  K := PEmpty
  osem k := k.elim
  ho := Pipeline.OwnSemFacts.none _
  hbody c := (body0 Va c).loose
  hwaits := Pipeline.hwaits_of_owed_zero _ _ _ _ L lv 0 fun _ _ => rfl
  pre c := iprop(unscopedBufs c (Va c) ∗ owesNone c)
  post c := iprop(unscopedBufs c (Vp c) ∗ owesNone c)
  X _ := BI.emp
  Y _ := BI.emp
  Z c := Pipeline.unscopedRest (Ix := Unit) (Name := ℕ) (U := UU) (Lvl := ℕ) spec0 c (Va c)
  hentry c := by
    rw [Pipeline.ownSems0_none]
    have hsplit := Pipeline.arrays_of_unscopedBufs (p := 0) (pcfgs (F := F)) adm (pdats Va Vb) launch0.win launch0.arr_whole c
      ((pdats Va Vb 0 c).share_full fun _ => rfl) (Va c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats Va Vb 0 c).Φ 0 = rest0 c from rfl]
    iintro ⟨-, -, Hr⟩; iexact Hr
  hout c := by
    rw [Pipeline.ownSems0_none, show (pdats Va Vb 0 c).Φ (Fin.last _) = rest0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) launch0.win launch0.arr_whole c
      (pdats Va Vb) ((pdats Va Vb 0 c).share_full fun _ => rfl) (Va c) (Vp c) ((pdats Va Vb 0 c).arrAt · cfg0.N)
      (fun w => by
        fin_cases w
        · exact ((pdats Va Vb 0 c).arrAt_in 0 rfl _).trans (hne c main_call0_v0 (by decide)).symm
        · exact (hout c).symm)
      (fun b hb => hne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The second region. -/
def reg1 (Vp : Vals F) (hout0 : ∀ c, Vp c main_call0_v12_0 = (dat1 Vb c).arrAt 7 cfg1.N)
    (hout1 : ∀ c, Vp c main_call0_v12_1 = (dat1 Vb c).arrAt 8 cfg1.N) (hout2 : ∀ c, Vp c main_call0_v12_2 = (dat1 Vb c).arrAt 9 cfg1.N)
    (hne : ∀ c (b : Ref sig .tc), b ≠ main_call0_v12_0 → b ≠ main_call0_v12_1 → b ≠ main_call0_v12_2 → Vp c b = Vb c b) :
    Pipeline.RegionSeg (pcfgs (F := F)) adm (pdats Va Vb) () defs₀ Variants.none L lv 1 where
  win := launch1.win.to₀
  block_pos := launch1.block_pos
  stage_whole := launch1.stage_whole
  K := PEmpty
  osem k := k.elim
  ho := Pipeline.OwnSemFacts.none _
  hbody c := (body1 Vb c).loose
  hwaits := Pipeline.hwaits_of_owed_zero _ _ _ _ L lv 1 fun _ _ => rfl
  pre c := iprop(unscopedBufs c (Vb c) ∗ owesNone c)
  post c := iprop(unscopedBufs c (Vp c) ∗ owesNone c)
  X _ := BI.emp
  Y _ := BI.emp
  Z c := Pipeline.unscopedRest (Ix := Unit) (Name := ℕ) (U := UU) (Lvl := ℕ) spec1 c (Vb c)
  hentry c := by
    rw [Pipeline.ownSems0_none]
    have hsplit := Pipeline.arrays_of_unscopedBufs (p := 1) (pcfgs (F := F)) adm (pdats Va Vb) launch1.win launch1.arr_whole c
      ((pdats Va Vb 1 c).share_full fun _ => rfl) (Vb c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats Va Vb 1 c).Φ 0 = inv1 Vb c 0 from rfl]
    have hrest := Entails.of_eq (scopedRest1_eq (Ix := Unit) (Val := Elt F) (Name := ℕ) (U := UU) (Lvl := ℕ) c)
    iintro ⟨-, -, Hr⟩
    ihave Hr := hrest $$ Hr
    unfold inv1
    icases Hr with ⟨R0, R1, R2, R3, ⟨%g, HT⟩⟩
    isplitl [R0 R1 R2 R3]
    · isplitl [R0]; · iexact R0
      isplitl [R1]; · iexact R1
      isplitl [R2]; · iexact R2
      iexact R3
    iexists g; isplitr; · ipureintro; exact fun h => absurd rfl h.1
    iexact HT
  hout c := by
    rw [Pipeline.ownSems0_none, show (pdats Va Vb 1 c).Φ (Fin.last _) = inv1 Vb c 32 from rfl]
    have hrest := Entails.of_eq (scopedRest1_eq (Ix := Unit) (Val := Elt F) (Name := ℕ) (U := UU) (Lvl := ℕ) c).symm
    unfold inv1
    iintro ⟨⟨R0, R1, R2, R3⟩, %g, -, HT⟩
    isplitr; · iempintro
    isplitr; · iempintro
    iapply hrest
    isplitl [R0]; · iexact R0
    isplitl [R1]; · iexact R1
    isplitl [R2]; · iexact R2
    isplitl [R3]; · iexact R3
    iexists g; iexact HT
  hexit c := by
    have hin (w : Fin cfg1.W) (h : (cfg1.win w).isOut = false) := (pdats Va Vb 1 c).arrAt_in w h cfg1.N
    have hjoin := Pipeline.unscopedBufs_of_arrays (p := 1) (pcfgs (F := F)) adm (Ix := Unit) (Name := ℕ) (U := UU) (Lvl := ℕ) launch1.win launch1.arr_whole c
      (pdats Va Vb) ((pdats Va Vb 1 c).share_full fun _ => rfl) (Vb c) (Vp c) ((pdats Va Vb 1 c).arrAt · cfg1.N)
      (fun w => by
        fin_cases w
        · exact (hin 0 rfl).trans (hne c main_call0_v3 (by decide) (by decide) (by decide)).symm
        · exact (hin 1 rfl).trans (hne c main_call0_v1 (by decide) (by decide) (by decide)).symm
        · exact (hin 2 rfl).trans (hne c main_call0_v5 (by decide) (by decide) (by decide)).symm
        · exact (hin 3 rfl).trans (hne c main_call0_v9 (by decide) (by decide) (by decide)).symm
        · exact (hin 4 rfl).trans (hne c main_call0_v10 (by decide) (by decide) (by decide)).symm
        · exact (hin 5 rfl).trans (hne c main_call0_v7 (by decide) (by decide) (by decide)).symm
        · exact (hin 6 rfl).trans (hne c main_call0_v11 (by decide) (by decide) (by decide)).symm
        · exact (hout0 c).symm
        · exact (hout1 c).symm
        · exact (hout2 c).symm)
      (fun b hb => hne c b (fun h => hb (h ▸ Finset.mem_image.mpr ⟨7, Finset.mem_univ _, rfl⟩))
        (fun h => hb (h ▸ Finset.mem_image.mpr ⟨8, Finset.mem_univ _, rfl⟩)) (fun h => hb (h ▸ Finset.mem_image.mpr ⟨9, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Proof.Loss
end
-- ==== Proof.LossMain.lean ====
/-
  The whole program, run: every execution ends, every counter is zero at the end, and every buffer that outlives the
  kernels holds what the program's items leave in it.
-/
module

public import proofs.«01_k».proof.Proof.LossRegions
public import Idealize.ShloMosaic.Lib.StableHlo.RunHlo

@[expose] public section

noncomputable section

namespace Cert.Proof.Loss

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg)

variable {F : FTy → Type} [FloatOps F]

local notation "𝕄" => MT nD τ sig Unit (Elt F) ℕ UU ℕ

variable (m : (ℓ : Loc nD τ sig) → Buf (Elt F) ℓ)

/-! ## What each region leaves -/

/-- The first region's entry, by reference. -/
abbrev entry0 : Vals F := fun c b => V1 m c b
/-- The summed scores, as the first region leaves them. -/
def scores (c : Dev nD) : Buf (Elt F) ((c : Thread nD τ).loc main_call0_v1) := (dat0 (entry0 m) c).arrAt 1 cfg0.N

/-- The scores beside anything: enough to say how the second region is entered. -/
def outsA : Outs (F := F) := fun _ r c =>
  Function.update (β := fun r : Ref sig .tc => Buf (Elt F) ((c : Thread nD τ).loc r)) (fun _ _ => Classical.arbitrary _) main_call0_v1 (scores m c) r
/-- The second region's entry, by reference. -/
abbrev entry1 : Vals F := fun c b => V3 m (outsA m) c b
/-- What the two regions leave. -/
def outsB : Outs (F := F) := fun _ r c =>
  Function.update (β := fun r : Ref sig .tc => Buf (Elt F) ((c : Thread nD τ).loc r))
    (Function.update (β := fun r : Ref sig .tc => Buf (Elt F) ((c : Thread nD τ).loc r))
      (Function.update (β := fun r : Ref sig .tc => Buf (Elt F) ((c : Thread nD τ).loc r)) (fun r => outsA m 0 r c)
        main_call0_v12_0 ((dat1 (entry1 m) c).arrAt 7 cfg1.N))
      main_call0_v12_1 ((dat1 (entry1 m) c).arrAt 8 cfg1.N))
    main_call0_v12_2 ((dat1 (entry1 m) c).arrAt 9 cfg1.N) r

theorem outsA_v1 (c : Dev nD) (J : ℕ) : outsA m J main_call0_v1 c = scores m c := by
  unfold outsA; exact Function.update_self ..
theorem outsB_v1 (c : Dev nD) (J : ℕ) : outsB m J main_call0_v1 c = scores m c := by
  unfold outsB
  rw [Function.update_of_ne (by decide), Function.update_of_ne (by decide), Function.update_of_ne (by decide)]
  exact outsA_v1 m c 0
theorem outsB_0 (c : Dev nD) (J : ℕ) : outsB m J main_call0_v12_0 c = (dat1 (entry1 m) c).arrAt 7 cfg1.N := by
  unfold outsB
  rw [Function.update_of_ne (by decide), Function.update_of_ne (by decide)]
  exact Function.update_self ..
theorem outsB_1 (c : Dev nD) (J : ℕ) : outsB m J main_call0_v12_1 c = (dat1 (entry1 m) c).arrAt 8 cfg1.N := by
  unfold outsB
  rw [Function.update_of_ne (by decide)]
  exact Function.update_self ..
theorem outsB_2 (c : Dev nD) (J : ℕ) : outsB m J main_call0_v12_2 c = (dat1 (entry1 m) c).arrAt 9 cfg1.N := by
  unfold outsB
  exact Function.update_self ..

theorem V2_same (c : Dev nD) : V2 m (outsB m) c = V2 m (outsA m) c := by
  unfold V2; rw [outsB_v1, outsA_v1]
theorem V3_same (c : Dev nD) : V3 m (outsB m) c = V3 m (outsA m) c := by
  unfold V3; rw [V2_same]

theorem V2_at (c : Dev nD) : V2 m (outsB m) c main_call0_v1 = (dat0 (entry0 m) c).arrAt 1 cfg0.N := by
  unfold V2; rw [outsB_v1]; exact Function.update_self ..
theorem V4_at0 (c : Dev nD) : V4 m (outsB m) c main_call0_v12_0 = (dat1 (entry1 m) c).arrAt 7 cfg1.N := by
  unfold V4
  rw [Function.update_of_ne (StableHlo.devRef_ne_of_ne (by decide)), Function.update_of_ne (StableHlo.devRef_ne_of_ne (by decide)), outsB_0]
  exact Function.update_self ..
theorem V4_at1 (c : Dev nD) : V4 m (outsB m) c main_call0_v12_1 = (dat1 (entry1 m) c).arrAt 8 cfg1.N := by
  unfold V4
  rw [Function.update_of_ne (StableHlo.devRef_ne_of_ne (by decide)), outsB_1]
  exact Function.update_self ..
theorem V4_at2 (c : Dev nD) : V4 m (outsB m) c main_call0_v12_2 = (dat1 (entry1 m) c).arrAt 9 cfg1.N := by
  unfold V4; rw [outsB_2]; exact Function.update_self ..

/-! ## The two regions between the program's thread states -/

abbrev exit0 : Vals F := fun c b => V2 m (outsB m) c b
abbrev exit1 : Vals F := fun c b => V4 m (outsB m) c b

abbrev R0 := reg0 (entry0 m) (entry1 m) (exit0 m) (V2_at m)
  (fun c b h => V2_of m (outsB m) c b (fun h' => h (List.mem_singleton.mp h')))
abbrev R1 := reg1 (entry0 m) (entry1 m) (exit1 m) (V4_at0 m) (V4_at1 m) (V4_at2 m)
  (fun c b h0 h1 h2 => (V4_of m (outsB m) c b (by simp [h0, h1, h2])).trans (congrFun (V3_same m c) _))

abbrev EP : Emb (UR sig nD τ) 𝕄 := embL

def u₀ : UU := (initOf (Pipeline.cells cfgs cellOf_inj) (Pipeline.launchToks cfgs cellOf_inj), 1)

/-- What rides beside the buffers: the core owes nothing. -/
abbrev E : Fin 3 → Dev nD → sProp 𝕄 := fun _ c => owesNone c

/-- The program's items. -/
abbrev items (c : Dev nD) : List (Seg (pcfgs (F := F)) adm (pdats (entry0 m) (entry1 m)) () defs₀ Variants.none L lv) :=
  segs m (outsB m) Variants.none L lv E () (pdats (entry0 m) (entry1 m)) (R0 m) (R1 m) c

set_option backward.isDefEq.respectTransparency.types false in
/-- Every execution ends with every buffer that outlives the kernels at the last valuation and every counter at zero. -/
theorem run_main (ρ : Dev nD → PrngReg) :
    θ_run defs (onTc (τ := τ) (main (F := F))) ⟨m, fun _ => 0, ρ⟩ (fun r =>
      (∀ c : Dev nD, ∀ b ∈ Pipeline.ucRefs τ sig, r.2.mem (c, b) = V5 m (outsB m) c b) ∧ r.2.sem = fun _ => 0) := by
  have hh (c : Dev nD) (W : Valuation τ sig (Elt F)) := Pipeline.unscopedBufs_held (Ix := Unit) (Name := ℕ) (U := UU) (Lvl := ℕ) c W
  refine Pipeline.θ_run_regions_kit_dev_sems (pcfgs (F := F)) adm (pdats (entry0 m) (entry1 m)) () cellOf_inj EP defs₀ Variants.none L lv m ρ main
    (items m)
    (fun c Q => by
      rewrite [main_chain c, Seg.run_eq_chain,
        show (items m c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [items, segs, Seg.pipes_host, Seg.pipes_region, Seg.pipes_nil]; decide) (fun _ => 0) (fun _ _ => rfl) (fun _ => iprop(emp)) u₀ ?_
    (T₀ := fun c => iprop(StableHlo.held (c : Thread nD τ) (Pipeline.ucRefs τ sig) (V0 m c) ∗ owesNone c))
    (Tₙ := fun c => StableHlo.held (c : Thread nD τ) (Pipeline.ucRefs τ sig) (V5 m (outsB m) c))
    (hch := fun c => ⟨.rfl, ?_, ?_, ?_, ?_, .rfl⟩)
    (hinit := ?_) (QY := fun c s => ∀ b ∈ Pipeline.ucRefs τ sig, s.mem (c, b) = V5 m (outsB m) c b)
    (hfin := fun c s' => ?_) (hQ := fun _ h hz => ⟨h, funext fun g => hz g (.inr (regions_no_unscoped g.2))⟩)
  · unfold u₀
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · exact sep_mono (Entails.of_eq (hh c (V1 m c)).symm) .rfl
  · exact sep_mono (Entails.of_eq (hh c (V2 m (outsB m) c))) .rfl
  · exact sep_mono (Entails.of_eq ((congrArg _ (V3_same m c)).trans (hh c (V3 m (outsA m) c)).symm)) .rfl
  · exact sep_mono (Entails.of_eq (hh c (V4 m (outsB m) c))) .rfl
  · refine Pipeline.initEach L lv fun c => ?_
    rw [show unscopedBufs c (fun b => m ((c : Thread nD τ).loc b)) = StableHlo.held (c : Thread nD τ) (Pipeline.ucRefs τ sig) (V0 m c) from hh c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V5 m (outsB m) c) s') $$ [Hh HSI]
    · isplitl [Hh] <;> iassumption
    icases Hr with ⟨%h, HSI⟩
    imodintro
    isplitr
    · ipureintro; exact h
    iexact HSI

/-- A reference that outlives the kernels is among those the run reads. -/
theorem mem_uc (r : Ref sig .tc) (h : (Proc.devRef .tc r : DevRef τ sig).isScoped = false) : (Proc.devRef .tc r : DevRef τ sig) ∈ Pipeline.ucRefs τ sig :=
  Finset.mem_filter.mpr ⟨StableHlo.devRef_mem_tcRefs r, by rw [h]; decide⟩

/-- The program's run: each argument ends as launched, each result at the last valuation, every counter at zero. -/
theorem run_values (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_v0_0) = V5 m (outsB m) c main_v0_0
      ∧ r.2.mem ((c.tc : Thread nD τ).loc main_v0_1) = V5 m (outsB m) c main_v0_1
      ∧ r.2.mem ((c.tc : Thread nD τ).loc main_v0_2) = V5 m (outsB m) c main_v0_2)
      ∧ r.2.sem = fun _ => 0) :=
  θ_run_mono (run_main m ρ) fun r h => ⟨fun c =>
    ⟨(h.1 c _ (mem_uc main_arg0 rfl)).trans (V5_main_arg0 m (outsB m) c),
      (h.1 c _ (mem_uc main_arg1 rfl)).trans (V5_main_arg1 m (outsB m) c),
      (h.1 c _ (mem_uc main_arg2 rfl)).trans (V5_main_arg2 m (outsB m) c),
      (h.1 c _ (mem_uc main_arg3 rfl)).trans (V5_main_arg3 m (outsB m) c),
      (h.1 c _ (mem_uc main_arg4 rfl)).trans (V5_main_arg4 m (outsB m) c),
      (h.1 c _ (mem_uc main_arg5 rfl)).trans (V5_main_arg5 m (outsB m) c),
      (h.1 c _ (mem_uc main_arg6 rfl)).trans (V5_main_arg6 m (outsB m) c),
      h.1 c _ (mem_uc main_v0_0 rfl), h.1 c _ (mem_uc main_v0_1 rfl), h.1 c _ (mem_uc main_v0_2 rfl)⟩, h.2⟩

end Cert.Proof.Loss
end
-- ==== Proof.Frames.lean ====
/-
  The frame claims: each program ends with its arguments as launched and every counter at zero.
-/
module

public import proofs.«01_k».proof.Defs
public import proofs.«01_k».proof.Proof.LossMain
public import proofs.«01_k».proof.Proof.Gen.Kernel
public import proofs.«01_k».proof.Proof.Gen.ReferenceIdeal
public import proofs.«01_k».proof.Proof.Gen.ReferenceIdeal.Run
public import proofs.«01_k».proof.Proof.Gen.Pre_finite_logits

@[expose] public section

noncomputable section

namespace Cert.Proof.Loss

open Idealize.ShloMosaic Idealize.SL.Sem

theorem frame_kernelIdeal {F : FTy → Type} [FloatOps F] (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0) :=
  θ_run_mono (run_values m g) fun r h => ⟨fun c =>
    let ⟨h0, h1, h2, h3, h4, h5, h6, _⟩ := h.1 c
    ⟨h0, h1, h2, h3, h4, h5, h6⟩, h.2⟩

theorem frame_ideal : Cert.quiescent_KernelIdeal := fun m g _ => frame_kernelIdeal m g
theorem frame_ideal_pre : Cert.quiescent_KernelIdeal_pre_finite_logits := fun m g _ => frame_kernelIdeal m g

/-- The reference runs on the host alone and declares no semaphore. -/
theorem frame_reference : Cert.quiescent_ReferenceIdeal := fun m g _ =>
  θ_run_mono (Cert.ReferenceIdeal.Value.run (F := Ideal) m g) fun r h =>
    ⟨fun c => (h c).2.2.2, sem_eq_zero_of_no_sems (by decide) r.2⟩
theorem frame_reference_pre : Cert.quiescent_ReferenceIdeal_pre_finite_logits := fun m g _ => frame_reference m g trivial

/-! ## The kernel on bits

The kernel and its idealization are the same program, printed under two names: no operation was rewritten.
Their body tables and their mains are equal part by part, so one frame serves both. -/

theorem bodies_eq : Cert.Kernel.defs₀ (F := Bits) = Cert.KernelIdeal.defs₀ (F := Bits) := by
  refine congrArg Defs.onTc (funext fun l => ?_)
  match l with
  | 0 => exact funext fun _ => rfl
  | 1 => exact funext fun _ => rfl

set_option maxHeartbeats 2000000 in
theorem defs_eq : Cert.Kernel.defs (F := Bits) = Cert.KernelIdeal.defs (F := Bits) := by
  unfold Cert.Kernel.defs Cert.KernelIdeal.defs
  rw [bodies_eq]
  rfl

set_option maxHeartbeats 2000000 in
theorem main_eq : Cert.Kernel.main (F := Bits) = Cert.KernelIdeal.main (F := Bits) := by
  funext c
  unfold Cert.Kernel.main Cert.KernelIdeal.main
  rfl

set_option maxHeartbeats 2000000 in
theorem frame_kernel : Cert.quiescent_Kernel := fun m g _ => by
  rw [main_eq, defs_eq]
  exact frame_kernelIdeal (F := Bits) m g

end Cert.Proof.Loss
end
-- ==== Proof.LossMath.lean ====
/-
  The loss of one anchor over the extended reals, as the kernel writes it and as the problem writes it, and their equality.
-/
module

public import Idealize.ShloMosaic.PureOps.Ideal
public import Idealize.ShloMosaic.PureOps.Ideal.Laws
public import Idealize.ShloMosaic.Lib.WordCmp

@[expose] public section

noncomputable section

namespace Cert.Proof.Loss

open Idealize.ShloMosaic
open scoped BigOperators

/-! ## One distribution over 17 bins -/

/-- The logarithm of the sum of the exponentials. -/
def lse (x : Fin 17 → EReal) : EReal := Ideal.log (∑ k, Ideal.exp (x k))

/-- The entry at bin `t`, as the kernel reads it: the sum over all bins of the entry where the bin's number is `t`. -/
def pick (x : Fin 17 → EReal) (t : BitVec 32) : EReal :=
  ∑ k : Fin 17, Scalar.select (IntOp.cmpi .eq (BitVec.ofNat 32 k.val) t) (x k) 0

/-- The greatest entry. -/
def top (x : Fin 17 → EReal) : EReal := max ⊥ (Finset.univ.fold max ⊥ x)

/-- The logarithm of the softmax at bin `k`, as the problem writes it: the entry below the greatest entry, less the
    logarithm of the sum of the exponentials of all entries so shifted. -/
def logp (x : Fin 17 → EReal) (k : Fin 17) : EReal :=
  (x k - top x) - Ideal.log (∑ j, Ideal.exp (x j - top x))

/-- The entry at bin `t`, as the problem reads it. -/
def take (y : Fin 17 → EReal) (t : BitVec 32) : EReal := y ⟨min t.toInt.toNat 16, by omega⟩

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- The kernel's sum over the bins reads one entry. -/
theorem pick_ofNat (x : Fin 17 → EReal) (n : ℕ) (h : n < 17) : pick x (BitVec.ofNat 32 n) = x ⟨n, h⟩ := by
  unfold pick
  rw [Finset.sum_eq_single (⟨n, h⟩ : Fin 17)]
  · simp [Scalar.select, IntOp.cmpi]
  · intro k _ hk
    have hne : BitVec.ofNat 32 k.val ≠ BitVec.ofNat 32 n := by
      intro he
      have := congrArg BitVec.toNat he
      simp only [BitVec.toNat_ofNat] at this
      have hk' := k.isLt
      exact hk (Fin.ext (by show k.val = n; omega))
    have hb : (BitVec.ofNat 32 k.val == BitVec.ofNat 32 n) = false := beq_eq_false_iff_ne.2 hne
    simp only [Scalar.select, IntOp.cmpi, hb]
    rfl
  · intro h'; exact absurd (Finset.mem_univ _) h'

theorem take_ofNat (y : Fin 17 → EReal) (n : ℕ) (h : n < 17) : take y (BitVec.ofNat 32 n) = y ⟨n, h⟩ := by
  unfold take
  refine congrArg y (Fin.ext ?_)
  show min (BitVec.ofNat 32 n).toInt.toNat 16 = n
  have : (BitVec.ofNat 32 n).toInt = (n : ℤ) := by
    rw [BitVec.toInt_eq_toNat_of_lt (by rw [BitVec.toNat_ofNat]; omega), BitVec.toNat_ofNat]
    omega
  omega

/-- Over finite entries the greatest entry is finite. -/
theorem top_coe (y : Fin 17 → ℝ) : ∃ m : ℝ, top (fun k => (y k : EReal)) = (m : EReal) := by
  have hfold : ∀ s : Finset (Fin 17), s.fold max ⊥ (fun k => (y k : EReal)) = ⊥ ∨
      ∃ m : ℝ, s.fold max ⊥ (fun k => (y k : EReal)) = (m : EReal) := by
    intro s
    induction s using Finset.induction_on with
    | empty => exact Or.inl (Finset.fold_empty)
    | insert a s h ih =>
      refine Or.inr ?_
      rw [Finset.fold_insert h]
      rcases ih with ih | ⟨m, ih⟩
      · exact ⟨y a, by rw [ih]; exact max_eq_left bot_le⟩
      · exact ⟨max (y a) m, by rw [ih]; exact ((EReal.coe_strictMono.monotone).map_max).symm⟩
  unfold top
  rw [max_eq_right bot_le]
  rcases hfold Finset.univ with h | h
  · exfalso
    have h0 : ((y 0 : ℝ) : EReal) ≤ Finset.univ.fold max ⊥ (fun k => (y k : EReal)) :=
      (Finset.le_fold_max _).2 (Or.inr ⟨0, Finset.mem_univ _, le_refl _⟩)
    rw [h] at h0
    exact absurd (le_bot_iff.1 h0) (EReal.coe_ne_bot _)
  · exact h

theorem log_sum_exp_coe (y : Fin 17 → ℝ) :
    Ideal.log (∑ k, Ideal.exp ((y k : ℝ) : EReal)) = ((Real.log (∑ k, Real.exp (y k)) : ℝ) : EReal) := by
  simp only [Ideal.exp_coe]
  rw [coe_sum, Ideal.log_coe, if_neg]
  exact not_le.2 (Finset.sum_pos (fun k _ => Real.exp_pos _) ⟨0, Finset.mem_univ _⟩)

/-- Over finite entries, the logarithm of the sum of the exponentials less an entry is minus the logarithm of the softmax
    there: shifting all entries by the greatest changes nothing. -/
theorem lse_sub (x : Fin 17 → EReal) (hx : ∀ k, ∃ y : ℝ, x k = (y : EReal)) (k : Fin 17) :
    lse x - x k = -logp x k := by
  choose y hy using hx
  obtain rfl : x = fun k => (y k : EReal) := funext hy
  obtain ⟨m, hm⟩ := top_coe y
  unfold lse logp
  rw [hm, log_sum_exp_coe]
  have hs : ∀ j, ((y j : ℝ) : EReal) - (m : EReal) = ((y j - m : ℝ) : EReal) := fun j => (EReal.coe_sub _ _).symm
  simp only [hs]
  rw [log_sum_exp_coe]
  have hshift : Real.log (∑ j, Real.exp (y j - m)) = Real.log (∑ j, Real.exp (y j)) - m := by
    simp only [Real.exp_sub, ← Finset.sum_div]
    rw [Real.log_div (ne_of_gt (Finset.sum_pos (fun k _ => Real.exp_pos _) ⟨0, Finset.mem_univ _⟩)) (Real.exp_ne_zero _), Real.log_exp]
  rw [hshift, ← EReal.coe_sub, ← EReal.coe_sub, ← EReal.coe_neg]
  exact congrArg _ (by ring)

/-! ## The clipped distances -/

/-- The clip's upper end, 15.99 as a float. -/
abbrev hi : EReal := Ideal.ofBits .f32 0x417FD70A#32

theorem hi_coe : ∃ r : ℝ, hi = (r : EReal) ∧ 0 ≤ r ∧ r < 16 := by
  refine ⟨16766730 / 1048576, ?_, by norm_num, by norm_num⟩
  simp only [hi, Ideal.ofBits, Ideal.ieee]
  norm_num [BitVec.extractLsb', BitVec.toNat, Nat.shiftRight_eq_div_pow]

/-- A clipped distance lies in one of the first sixteen bins. -/
theorem bin_of_clip (d : EReal) : ∃ n : ℕ, n < 16 ∧ Ideal.fptosi 32 (min hi (max 0 d)) = BitVec.ofNat 32 n := by
  obtain ⟨h, hh, h0, h16⟩ := hi_coe
  have hu0 : (0 : EReal) ≤ min hi (max 0 d) := le_min (by rw [hh]; exact_mod_cast h0) (le_max_left _ _)
  have hu1 : min hi (max 0 d) ≤ (h : EReal) := hh ▸ min_le_left _ _
  generalize min hi (max 0 d) = u at hu0 hu1
  induction u with
  | bot => exact absurd hu0 (by simp)
  | top => exact absurd hu1 (by simp)
  | coe r =>
    have hr0 : 0 ≤ r := by exact_mod_cast hu0
    have hr1 : r ≤ h := by exact_mod_cast hu1
    have hf0 : 0 ≤ ⌊r⌋ := Int.floor_nonneg.2 hr0
    have hf1 : ⌊r⌋ < 16 := by
      rw [Int.floor_lt]
      push_cast
      linarith
    refine ⟨⌊r⌋.toNat, by omega, ?_⟩
    unfold Ideal.fptosi
    rw [Ideal.toIntClamped_coe, if_pos hr0]
    have : max (-((2 ^ (32 - 1) : ℕ) : ℤ)) (min (((2 ^ (32 - 1) : ℕ) : ℤ) - 1) ⌊r⌋) = (⌊r⌋.toNat : ℤ) := by
      norm_num
      omega
    rw [this]
    exact BitVec.ofInt_natCast _ _

/-! ## One anchor -/

/-- What the loss reads of one anchor: the two distributions' logits, the sum of the class scores, the ends of the predicted
    and of the assigned interval, the anchor point and the label. -/
structure Anchor where
  logit : Fin 2 → Fin 17 → EReal
  score : EReal
  p0 : EReal
  p1 : EReal
  a0 : EReal
  a1 : EReal
  pt : EReal
  label : BitVec 32

namespace Anchor

variable (a : Anchor)

/-- Whether the anchor is assigned a class. -/
def isPos : BitVec 1 := IntOp.cmpi .ne a.label 80#32

/-- The same as a number. -/
def pos : EReal := FloatOps.uitofp (F := Ideal) .f32 a.isPos

/-- The distances of the assigned interval's ends from the anchor point. -/
def gap : Fin 2 → EReal
  | 0 => a.pt - a.a0
  | 1 => a.a1 - a.pt

def ltrb (s : Fin 2) : EReal := min hi (max 0 (a.gap s))
def bin (s : Fin 2) : BitVec 32 := Ideal.fptosi 32 (a.ltrb s)
def wl (s : Fin 2) : EReal := FloatOps.sitofp (F := Ideal) .f32 (IntOp.addi (a.bin s) 1#32) - a.ltrb s
def wr (s : Fin 2) : EReal := 1 - a.wl s

/-- The length of the intersection. -/
def inter : EReal := max (min a.p1 a.a1 - max a.p0 a.a0) 0

/-- One side's focal term as the kernel writes it. -/
def side (s : Fin 2) : EReal :=
  (lse (a.logit s) - pick (a.logit s) (a.bin s)) * a.wl s
    + (lse (a.logit s) - pick (a.logit s) (IntOp.addi (a.bin s) 1#32)) * a.wr s

/-- One side's focal term as the problem writes it. -/
def sideR (s : Fin 2) : EReal :=
  -take (logp (a.logit s)) (a.bin s) * a.wl s + -take (logp (a.logit s)) (IntOp.addi (a.bin s) 1#32) * a.wr s

/-- The five terms that the kernel adds up over the anchors: the count, the L1 distance, one less the overlap, the weight
    and the weighted focal term. -/
def term : Fin 5 → EReal
  | 0 => a.pos
  | 1 => (FloatOps.absf (F := Ideal) (φ := .f32) (a.p0 - a.a0) + FloatOps.absf (F := Ideal) (φ := .f32) (a.p1 - a.a1)) * a.pos
  | 2 => Scalar.select a.isPos (1 - Scalar.select a.isPos
      (Ideal.div a.inter (Scalar.select a.isPos (a.p1 - a.p0 + (a.a1 - a.a0) - a.inter) 1)) 0) 0
  | 3 => a.score * a.pos
  | 4 => Ideal.ofBits .f32 0x3F000000#32 * (a.side 0 + a.side 1) * (a.score * a.pos)

/-- The bit widened to a word and read as a signed integer is the bit read as a number. -/
theorem widen (c : BitVec 1) :
    FloatOps.sitofp (F := Ideal) .f32 (BitVec.setWidth 32 c) = FloatOps.uitofp (F := Ideal) .f32 c := by
  rcases BitVec.eq_zero_or_eq_one c with rfl | rfl <;> rfl

theorem pos_cases : a.pos = 0 ∨ a.pos = 1 := by
  unfold pos
  rcases BitVec.eq_zero_or_eq_one a.isPos with h | h <;> rw [h]
  · exact Or.inl (by show (((0#1 : BitVec 1).toNat : ℝ) : EReal) = 0; simp)
  · exact Or.inr (by show (((1#1 : BitVec 1).toNat : ℝ) : EReal) = 1; simp)

/-- The mask, a number that is zero or one, distributes over any sum. -/
theorem add_mul_pos (x y : EReal) : (x + y) * a.pos = x * a.pos + y * a.pos := by
  rcases a.pos_cases with h | h <;> rw [h] <;> simp

/-- A side's bin is one of the first sixteen. -/
theorem bin_lt (s : Fin 2) : ∃ n : ℕ, n < 16 ∧ a.bin s = BitVec.ofNat 32 n := bin_of_clip _

theorem addi_one (n : ℕ) : IntOp.addi (BitVec.ofNat 32 n) 1#32 = BitVec.ofNat 32 (n + 1) :=
  (BitVec.ofNat_add n 1).symm

/-- With finite logits the two ways to write a side agree. -/
theorem side_eq (hx : ∀ s k, ∃ y : ℝ, a.logit s k = (y : EReal)) (s : Fin 2) : a.side s = a.sideR s := by
  obtain ⟨n, hn, hb⟩ := a.bin_lt s
  unfold side sideR
  rw [hb, addi_one, pick_ofNat _ n (by omega), pick_ofNat _ (n + 1) (by omega),
    take_ofNat _ n (by omega), take_ofNat _ (n + 1) (by omega), lse_sub _ (hx s), lse_sub _ (hx s)]

/-- Half of a value is the value divided by two. -/
theorem half_mul (x : EReal) : Ideal.ofBits .f32 0x3F000000#32 * x = Ideal.div x (Ideal.ofBits .f32 0x40000000#32) := by
  have h1 : Ideal.ofBits .f32 0x3F000000#32 = ((1 / 2 : ℝ) : EReal) := by
    simp only [Ideal.ofBits, Ideal.ieee]
    norm_num [BitVec.extractLsb', BitVec.toNat, Nat.shiftRight_eq_div_pow]
  have h2 : Ideal.ofBits .f32 0x40000000#32 = ((2 : ℝ) : EReal) := by
    simp only [Ideal.ofBits, Ideal.ieee]
    norm_num [BitVec.extractLsb', BitVec.toNat, Nat.shiftRight_eq_div_pow]
  rw [h1, h2, Ideal.div, if_neg (by norm_num), ← EReal.coe_inv, mul_comm]
  norm_num

/-- With finite logits, the kernel's weighted focal term is the problem's. -/
theorem term_focal (hx : ∀ s k, ∃ y : ℝ, a.logit s k = (y : EReal)) :
    a.term 4 = Ideal.div (a.sideR 0 + a.sideR 1) (Ideal.ofBits .f32 0x40000000#32) * (a.score * a.pos) := by
  show Ideal.ofBits .f32 0x3F000000#32 * (a.side 0 + a.side 1) * (a.score * a.pos) = _
  rw [half_mul, a.side_eq hx, a.side_eq hx]

end Anchor

end Cert.Proof.Loss
end
-- ==== Proof.LossStepValue.lean ====
/-
  One grid step over the extended reals: to each of the five words it adds the sum, over the block's 64 rows and 128 lanes,
  of the anchor's term.
-/
module

public import proofs.«01_k».proof.Proof.LossStep
public import proofs.«01_k».proof.Proof.LossMath
public import Idealize.ShloMosaic.Lib.Pointwise
public import Idealize.ShloMosaic.Lib.Pipeline.ValueKit.Tiles

@[expose] public section

noncomputable section

namespace Cert.Proof.Loss

open Cert.KernelIdeal Cert.KernelIdeal.Gen
open Idealize.ShloMosaic Idealize.ShloMosaic.TcCoe
open Idealize.SL Idealize.SL.Sem
open scoped BigOperators

set_option maxRecDepth 16384

namespace Blocks

variable (B : Blocks Ideal)

/-- The anchor at row `r` and lane `l` of the blocks: side `s` has its 17 logits in rows `17 s + k` of the logits' block. -/
def anchorAt (r : Fin 64) (l : Fin 128) : Anchor where
  logit
    | 0, k => B.dist (ix3 (⟨k.val, by omega⟩ : Fin 34) r l)
    | 1, k => B.dist (ix3 (⟨17 + k.val, by omega⟩ : Fin 34) r l)
  score := B.score (ix3 (0 : Fin 1) r l)
  p0 := B.pred (ix3 (0 : Fin 2) r l)
  p1 := B.pred (ix3 (1 : Fin 2) r l)
  a0 := B.box (ix3 (0 : Fin 2) r l)
  a1 := B.box (ix3 (1 : Fin 2) r l)
  pt := B.anchor (ix3 (0 : Fin 1) r l)
  label := B.label (ix2 r l)

/-! ## The loads at an index -/

theorem lab_at (r : Fin 64) (l : Fin 128) : B.lab (ix2 r l) = B.label (ix2 r l) :=
  View.ld_unit_apply_of _ _ _ _ _ _ fun a => by fin_cases a <;> exact (Nat.zero_add _).symm

theorem scr_at (r : Fin 64) (l : Fin 128) : B.scr (ix3 (0 : Fin 1) r l) = B.score (ix3 (0 : Fin 1) r l) :=
  View.ld_unit_apply_of _ _ _ _ _ _ fun a => by fin_cases a <;> exact (Nat.zero_add _).symm

theorem pts_at (r : Fin 64) (l : Fin 128) : B.pts (ix3 (0 : Fin 1) r l) = B.anchor (ix3 (0 : Fin 1) r l) :=
  View.ld_unit_apply_of _ _ _ _ _ _ fun a => by fin_cases a <;> exact (Nat.zero_add _).symm

theorem dst_at (k : Fin 34) (r : Fin 64) (l : Fin 128) : B.dst (ix3 k r l) = B.dist (ix3 k r l) :=
  View.ld_unit_apply_of _ _ _ _ _ _ fun a => by fin_cases a <;> exact (Nat.zero_add _).symm

/-- A pair's first coordinate as loaded. -/
theorem lo_at (X : S2x64x128.Idx → EReal) (r : Fin 64) (l : Fin 128) :
    View.ld (Val := Elt Ideal) (e' := .f32) X rLo (ix3 (0 : Fin 1) r l) = X (ix3 (0 : Fin 2) r l) :=
  View.ld_unit_apply_of _ _ _ _ _ _ fun a => by fin_cases a <;> exact (Nat.zero_add _).symm

/-- A pair's second coordinate as loaded. -/
theorem hi_at (X : S2x64x128.Idx → EReal) (r : Fin 64) (l : Fin 128) :
    View.ld (Val := Elt Ideal) (e' := .f32) X rHi (ix3 (0 : Fin 1) r l) = X (ix3 (1 : Fin 2) r l) :=
  View.ld_unit_apply_of _ _ _ _ _ _ fun a => by
    fin_cases a
    · rfl
    · exact (Nat.zero_add _).symm
    · exact (Nat.zero_add _).symm

theorem p0_at (r : Fin 64) (l : Fin 128) : B.p0 (ix3 (0 : Fin 1) r l) = B.pred (ix3 (0 : Fin 2) r l) := lo_at _ r l
theorem p1_at (r : Fin 64) (l : Fin 128) : B.p1 (ix3 (0 : Fin 1) r l) = B.pred (ix3 (1 : Fin 2) r l) := hi_at _ r l
theorem a0_at (r : Fin 64) (l : Fin 128) : B.a0 (ix3 (0 : Fin 1) r l) = B.box (ix3 (0 : Fin 2) r l) := lo_at _ r l
theorem a1_at (r : Fin 64) (l : Fin 128) : B.a1 (ix3 (0 : Fin 1) r l) = B.box (ix3 (1 : Fin 2) r l) := hi_at _ r l

/-! ## The five words -/

theorem step_0 (w : Fin 5 → EReal) : B.step w 0 = w 0 + ∑ r, ∑ l, (B.anchorAt r l).term 0 := by
  unfold Blocks.step
  pointwise [k1_pay30, k1_pay16, k1_pay5, k1_pay4]
  simp only [Anchor.widen, lab_at]
  rfl

theorem step_1 (w : Fin 5 → EReal) : B.step w 1 = w 1 + ∑ r, ∑ l, (B.anchorAt r l).term 1 := by
  unfold Blocks.step
  pointwise [k1_pay31, k1_pay11, k1_pay6, k1_pay7, k1_pay8, k1_pay9, k1_pay5, k1_pay4]
  simp only [Anchor.widen, lab_at, p0_at, p1_at, a0_at, a1_at]
  rfl

theorem step_2 (w : Fin 5 → EReal) : B.step w 2 = w 2 + ∑ r, ∑ l, (B.anchorAt r l).term 2 := by
  unfold Blocks.step
  pointwise [k1_pay32, k1_pay15, k1_pay12, k1_pay13, k1_pay14, k1_pay6, k1_pay7, k1_pay8, k1_pay9, k1_pay5, k1_pay4]
  simp only [lab_at, p0_at, p1_at, a0_at, a1_at]
  rfl

theorem step_3 (w : Fin 5 → EReal) : B.step w 3 = w 3 + ∑ r, ∑ l, (B.anchorAt r l).term 3 := by
  unfold Blocks.step
  pointwise [k1_pay33, k1_pay18, k1_pay17, k1_pay5, k1_pay4]
  simp only [Anchor.widen, lab_at, scr_at]
  rfl

theorem step_4 (w : Fin 5 → EReal) : B.step w 4 = w 4 + ∑ r, ∑ l, (B.anchorAt r l).term 4 := by
  unfold Blocks.step
  pointwise [k1_pay34, k1_pay29, k1_pay28, k1_pay27, k1_pay26, k1_pay25, Blocks.left, Blocks.right, k1_pay24, k1_pay23, k1_pay22, k1_pay21, k1_pay20, k1_pay19, k1_pay17, k1_pay10, k1_pay9, k1_pay8, k1_pay5, k1_pay4]
  simp only [Anchor.widen, lab_at, scr_at, pts_at, a0_at, a1_at, dst_at]
  rfl

/-- Every word gains the sum of its term over the block. -/
theorem step_eq (w : Fin 5 → EReal) (k : Fin 5) : B.step w k = w k + ∑ r, ∑ l, (B.anchorAt r l).term k := by
  fin_cases k
  · exact B.step_0 w
  · exact B.step_1 w
  · exact B.step_2 w
  · exact B.step_3 w
  · exact B.step_4 w

end Blocks

end Cert.Proof.Loss
end
-- ==== Proof.AnchorOf.lean ====
/-
  The anchor that the seven arguments give at a batch and a position.
-/
module

public import proofs.«01_k».proof.KernelIdeal
public import proofs.«01_k».proof.Proof.LossMath
public import Idealize.ShloMosaic.Lib.Pointwise.Index

@[expose] public section

noncomputable section

namespace Cert.Proof.Loss

open Cert.KernelIdeal
open Idealize.ShloMosaic
open scoped BigOperators

/-- Anchor `l` of batch `b`, from the logits, the predicted intervals, the anchor points, the labels, the assigned intervals
    and the class scores. -/
def anchorOf (x0 : S32x8192x34.Idx → EReal) (x1 : S32x8192x2.Idx → EReal) (x2 : S32x8192x1.Idx → EReal)
    (x3 : S32x8192.Idx → BitVec 32) (x4 : S32x8192x2.Idx → EReal) (x5 : S32x8192x80.Idx → EReal)
    (b : Fin 32) (l : Fin 8192) : Anchor where
  logit
    | 0, k => x0 (ix3 b l (⟨k.val, by omega⟩ : Fin 34))
    | 1, k => x0 (ix3 b l (⟨17 + k.val, by omega⟩ : Fin 34))
  score := ∑ k : Fin 80, x5 (ix3 b l k)
  p0 := x1 (ix3 b l (0 : Fin 2))
  p1 := x1 (ix3 b l (1 : Fin 2))
  a0 := x4 (ix3 b l (0 : Fin 2))
  a1 := x4 (ix3 b l (1 : Fin 2))
  pt := x2 (ix3 b l (0 : Fin 1))
  label := x3 (ix2 b l)

/-- The position of row `r`'s lane `l` within a batch: a batch's 8192 positions are 64 rows of 128 lanes. -/
def pos64 (r : Fin 64) (l : Fin 128) : Fin 8192 := ⟨128 * r.val + l.val, by omega⟩

/-- A sum over the positions is the sum over the rows of the sums over the lanes. -/
theorem sum_pos64 (f : Fin 8192 → EReal) : ∑ p, f p = ∑ r, ∑ l, f (pos64 r l) := by
  rw [← Fintype.sum_prod_type' (f := fun (r : Fin 64) (l : Fin 128) => f (pos64 r l))]
  refine (Equiv.sum_comp (finProdFinEquiv (m := 64) (n := 128)) f).symm.trans (Finset.sum_congr rfl fun x _ => ?_)
  refine congrArg f (Fin.ext ?_)
  show x.2.val + 128 * x.1.val = 128 * x.1.val + x.2.val
  omega

end Cert.Proof.Loss
end
-- ==== Proof.LossArrays.lean ====
/-
  The arrays that the two kernels read and leave: the blocks of a step at coordinates, the scores' sums, and the five words
  after the last step as sums over all anchors.
-/
module

public import proofs.«01_k».proof.Proof.LossMain
public import proofs.«01_k».proof.Proof.LossStepValue
public import proofs.«01_k».proof.Proof.AnchorOf
public import Idealize.ShloMosaic.Lib.Pipeline.ValueKit.Geometry
public import Idealize.ShloMosaic.Lib.StableHlo.ReadAt

@[expose] public section

noncomputable section

namespace Cert.Proof.Loss

open Cert.KernelIdeal Cert.KernelIdeal.Gen
open Idealize.ShloMosaic Idealize.ShloMosaic.TcCoe
open Idealize.SL Idealize.SL.Sem
open scoped BigOperators

set_option maxRecDepth 16384

/-! ## A step's blocks at coordinates -/

/-- The batch of step `t`, and row `r` of its block as a row of the array. -/
def bat (t : Fin cfg1.N) : Fin 32 := ⟨t.val, by have := t.isLt; have h : cfg1.N = 32 := N_1; omega⟩
def row (b : Fin 32) (r : Fin 64) : Fin 2048 := ⟨64 * b.val + r.val, by omega⟩

theorem index0_0 : ∀ t : Fin cfg0.N, win0_0.index t = ![t.val, 0] := (by decide +kernel : ∀ t : Fin grid0.N, _)
theorem index0_1 : ∀ t : Fin cfg0.N, win0_1.index t = ![0, t.val, 0] := (by decide +kernel : ∀ t : Fin grid0.N, _)
theorem index1_0 : ∀ t : Fin cfg1.N, win1_0.index t = ![0, t.val, 0] := (by decide +kernel : ∀ t : Fin grid1.N, _)
theorem index1_1 : ∀ t : Fin cfg1.N, win1_1.index t = ![0, t.val, 0] := (by decide +kernel : ∀ t : Fin grid1.N, _)
theorem index1_2 : ∀ t : Fin cfg1.N, win1_2.index t = ![0, t.val, 0] := (by decide +kernel : ∀ t : Fin grid1.N, _)
theorem index1_3 : ∀ t : Fin cfg1.N, win1_3.index t = ![0, t.val, 0] := (by decide +kernel : ∀ t : Fin grid1.N, _)
theorem index1_4 : ∀ t : Fin cfg1.N, win1_4.index t = ![t.val, 0] := (by decide +kernel : ∀ t : Fin grid1.N, _)
theorem index1_5 : ∀ t : Fin cfg1.N, win1_5.index t = ![0, t.val, 0] := (by decide +kernel : ∀ t : Fin grid1.N, _)
theorem index1_6 : ∀ t : Fin cfg1.N, win1_6.index t = ![0] := (by decide +kernel : ∀ t : Fin grid1.N, _)

variable {X3 : S34x2048x128.Idx → EReal} {X2 : S2x2048x128.Idx → EReal} {X1 : S1x2048x128.Idx → EReal} {X0 : S2048x128.Idx → BitVec 32}
variable (t : Fin cfg1.N) (r : Fin 64) (l : Fin 128)

theorem read_rows {X : S262144x80.Idx → EReal} (t : Fin cfg0.N) (p : Fin 8192) (k : Fin 80) :
    ((cfg0.win 0).blk t).view.read (Elt Ideal) X (ix2 p k) = X (ix2 (⟨8192 * t.val + p.val, by have := t.isLt; have h : cfg0.N = 32 := N_0; omega⟩ : Fin 262144) k) := by
  blk_simp
  exact congrArg X (by blk_ext [index0_0])

theorem read1_0 (k : Fin 34) : ((cfg1.win 0).blk t).view.read (Elt Ideal) X3 (ix3 k r l) = X3 (ix3 k (row (bat t) r) l) := by
  blk_simp
  exact congrArg X3 (by unfold row bat; blk_ext [index1_0])
theorem read1_1 (k : Fin 1) : ((cfg1.win 1).blk t).view.read (Elt Ideal) X1 (ix3 k r l) = X1 (ix3 k (row (bat t) r) l) := by
  blk_simp
  exact congrArg X1 (by unfold row bat; blk_ext [index1_1])
theorem read1_2 (k : Fin 2) : ((cfg1.win 2).blk t).view.read (Elt Ideal) X2 (ix3 k r l) = X2 (ix3 k (row (bat t) r) l) := by
  blk_simp
  exact congrArg X2 (by unfold row bat; blk_ext [index1_2])
theorem read1_3 (k : Fin 1) : ((cfg1.win 3).blk t).view.read (Elt Ideal) X1 (ix3 k r l) = X1 (ix3 k (row (bat t) r) l) := by
  blk_simp
  exact congrArg X1 (by unfold row bat; blk_ext [index1_3])
theorem read1_5 (k : Fin 2) : ((cfg1.win 5).blk t).view.read (Elt Ideal) X2 (ix3 k r l) = X2 (ix3 k (row (bat t) r) l) := by
  blk_simp
  exact congrArg X2 (by unfold row bat; blk_ext [index1_5])
theorem read1_4 : ((cfg1.win 4).blk t).view.read (Elt Ideal) X0 (ix2 r l) = X0 (ix2 (row (bat t) r) l) := by
  blk_simp
  exact congrArg X0 (by unfold row bat; blk_ext [index1_4])
theorem read1_6 {X : S1.Idx → EReal} : ((cfg1.win 6).blk t).view.read (Elt Ideal) X (ix1 (0 : Fin 1)) = X (ix1 (0 : Fin 1)) := by
  blk_simp
  exact congrArg X (by blk_ext [index1_6])

/-! ## The arrays as the host operations leave them -/

variable (m : (ℓ : Loc nD τ sig) → Buf (Elt Ideal) ℓ) (c : Dev nD) (b : Fin 32)

abbrev arg0 : S32x8192x34.Idx → EReal := m ((c : Thread nD τ).loc main_arg0)
abbrev arg1 : S32x8192x2.Idx → EReal := m ((c : Thread nD τ).loc main_arg1)
abbrev arg2 : S32x8192x1.Idx → EReal := m ((c : Thread nD τ).loc main_arg2)
abbrev arg3 : S32x8192.Idx → BitVec 32 := m ((c : Thread nD τ).loc main_arg3)
abbrev arg4 : S32x8192x2.Idx → EReal := m ((c : Thread nD τ).loc main_arg4)
abbrev arg5 : S32x8192x80.Idx → EReal := m ((c : Thread nD τ).loc main_arg5)
abbrev arg6 : S_.Idx → EReal := m ((c : Thread nD τ).loc main_arg6)

/-- An argument is as launched when the second kernel's operations begin. -/
theorem V2_arg (r : Ref sig .tc) (h1 : r ∉ ([main_call0_v1] : List (Ref sig .tc))) (h0 : r ∉ hostOps0_W) :
    V2 m (outsA m) c r = m ((c : Thread nD τ).loc r) :=
  (V2_of m (outsA m) c r h1).trans (V1_of m c r h0)

theorem row_div : (row b r).val / 64 = b.val := by
  show (64 * b.val + r.val) / 64 = b.val
  omega
theorem row_mod : (row b r).val % 64 * 128 + l.val = 128 * r.val + l.val := by
  show (64 * b.val + r.val) % 64 * 128 + l.val = 128 * r.val + l.val
  omega

/-- Row `r` of batch `b` at lane `l` is the batch's position `128 r + l`. -/
theorem ix_row {n : ℕ} (k : Fin n) (h1 : (row b r).val / 64 < 32) (h2 : (row b r).val % 64 * 128 + l.val < 8192) :
    ix3 (⟨(row b r).val / 64, h1⟩ : Fin 32) (⟨(row b r).val % 64 * 128 + l.val, h2⟩ : Fin 8192) k = ix3 b (pos64 r l) k :=
  congrArg₂ (fun x y => ix3 x y k) (Fin.ext (row_div r b)) (Fin.ext (row_mod r l b))

theorem v3_at (k : Fin 34) : (V3 m (outsA m) c main_call0_v3 : S34x2048x128.Idx → EReal) (ix3 k (row b r) l) = arg0 m c (ix3 b (pos64 r l) k) := by
  unfold V3
  after_reads_at
  rw [V2_arg _ _ main_arg0 (by decide) (by decide), ix_row]
theorem v5_at (k : Fin 2) : (V3 m (outsA m) c main_call0_v5 : S2x2048x128.Idx → EReal) (ix3 k (row b r) l) = arg1 m c (ix3 b (pos64 r l) k) := by
  unfold V3
  after_reads_at
  rw [V2_arg _ _ main_arg1 (by decide) (by decide), ix_row]
theorem v9_at (k : Fin 1) : (V3 m (outsA m) c main_call0_v9 : S1x2048x128.Idx → EReal) (ix3 k (row b r) l) = arg2 m c (ix3 b (pos64 r l) k) := by
  unfold V3
  after_reads_at
  rw [V2_arg _ _ main_arg2 (by decide) (by decide), ix_row, Subsingleton.elim k 0]
theorem v7_at (k : Fin 2) : (V3 m (outsA m) c main_call0_v7 : S2x2048x128.Idx → EReal) (ix3 k (row b r) l) = arg4 m c (ix3 b (pos64 r l) k) := by
  unfold V3
  after_reads_at
  rw [V2_arg _ _ main_arg4 (by decide) (by decide), ix_row]
theorem v10_at : (V3 m (outsA m) c main_call0_v10 : S2048x128.Idx → BitVec 32) (ix2 (row b r) l) = arg3 m c (ix2 b (pos64 r l)) := by
  unfold V3
  after_reads_at
  rw [V2_arg _ _ main_arg3 (by decide) (by decide)]
  exact congrArg _ (congrArg₂ ix2 (Fin.ext (row_div r b)) (Fin.ext (row_mod r l b)))
theorem v11_at : (V3 m (outsA m) c main_call0_v11 : S1.Idx → EReal) (ix1 (0 : Fin 1)) = arg6 m c ix0 := by
  unfold V3
  after_reads_at
  rw [V2_arg _ _ main_arg6 (by decide) (by decide)]
theorem v0_at (p : Fin 8192) (k : Fin 80) :
    (V1 m c main_call0_v0 : S262144x80.Idx → EReal) (ix2 (⟨8192 * b.val + p.val, by omega⟩ : Fin 262144) k) = arg5 m c (ix3 b p k) := by
  unfold V1
  after_reads_at

/-! ## The scores' sums -/

theorem rowSums_at (X : S8192x80.Idx → EReal) : rowSums (F := Ideal) X (ix3 (0 : Fin 1) r l) = ∑ k, X (ix2 (pos64 r l) k) := by
  unfold rowSums
  pointwise [k0_pay1]
  refine Finset.sum_congr rfl fun k _ => ?_
  refine congrArg X (congrArg (fun x => ix2 x k) (Fin.ext ?_))
  show r.val * 128 + l.val = 128 * r.val + l.val
  omega

/-- The rows' sums as an array: row `i`, lane `l` holds the sum of row `128 i + l`. -/
def sums (X : S262144x80.Idx → EReal) : S1x2048x128.Idx → EReal := fun j =>
  ∑ k : Fin 80, X (ix2 (⟨(j 1).val * 128 + (j 2).val, by
    have h1 : (j 1).val < 2048 := (j 1).isLt
    have h2 : (j 2).val < 128 := (j 2).isLt
    omega⟩ : Fin 262144) k)

theorem sums_at (X : S262144x80.Idx → EReal) : sums X (ix3 (0 : Fin 1) (row b r) l)
    = ∑ k, X (ix2 (⟨8192 * b.val + (pos64 r l).val, by have := (pos64 r l).isLt; omega⟩ : Fin 262144) k) := by
  refine Finset.sum_congr rfl fun k _ => congrArg X (congrArg (fun x => ix2 x k) (Fin.ext ?_))
  show (64 * b.val + r.val) * 128 + l.val = 8192 * b.val + (128 * r.val + l.val)
  omega

/-- Where a step of the first kernel stores its sums. -/
theorem emb_sums (t : Fin cfg0.N) : (win0_1.blk t).view.emb (ix3 (0 : Fin 1) r l)
    = (ix3 (0 : Fin 1) (row ⟨t.val, by have := t.isLt; have h : cfg0.N = 32 := N_0; omega⟩ r) l : S1x2048x128.Idx) := by
  unfold row
  blk_ext [index0_1]

/-- The first kernel leaves, at every row and lane, the sum of that position's class scores. -/
theorem scores_at : (scores m c : S1x2048x128.Idx → EReal) (ix3 (0 : Fin 1) (row b r) l) = ∑ k, arg5 m c (ix3 b (pos64 r l) k) := by
  have hG : (scores m c : S1x2048x128.Idx → EReal) = sums (V1 m c main_call0_v0) := by
    refine (dat0 (entry0 m) c).arrAt_eq_of_covers 1 _ (by decide +kernel) fun t _ y => ?_
    blk_simp
    have hy : ∀ y : S1x64x128.Idx, rowSums (F := Ideal) (rows (entry0 m) c t) y
        = sums (V1 m c main_call0_v0) ((win0_1.blk t).view.emb y) := by
      intro y
      obtain ⟨r, l, rfl⟩ : ∃ r l, y = ix3 (0 : Fin 1) r l := ⟨y 1, y 2, (eq_ix3 y).trans (congrArg (fun z => ix3 z (y 1) (y 2)) (Subsingleton.elim (α := Fin 1) _ _))⟩
      rw [rowSums_at, emb_sums, sums_at]
      exact Finset.sum_congr rfl fun k _ => read_rows t _ k
    exact hy y
  exact (congrFun hG _).trans ((sums_at r l b _).trans (Finset.sum_congr rfl fun k _ => v0_at m c b (pos64 r l) k))

/-! ## A step's anchors are the arguments' -/

abbrev anchorArg (p : Fin 8192) : Anchor :=
  anchorOf (arg0 m c) (arg1 m c) (arg2 m c) (arg3 m c) (arg4 m c) (arg5 m c) b p

theorem scores_entry1 : (V3 m (outsA m) c main_call0_v1 : S1x2048x128.Idx → EReal) = scores m c := by
  rw [V3_of m (outsA m) c main_call0_v1 (by decide)]
  unfold V2
  rw [outsA_v1]
  exact Function.update_self ..

/-- The anchor in step `t`'s blocks at row `r` and lane `l` is anchor `128 r + l` of batch `t`. -/
theorem anchorAt_eq : (blocksAt (entry1 m) c t).anchorAt r l = anchorArg m c (bat t) (pos64 r l) := by
  have e0 (k) : (blocksAt (entry1 m) c t).dist (ix3 k r l) = arg0 m c (ix3 (bat t) (pos64 r l) k) := (read1_0 t r l k).trans (v3_at r l m c (bat t) k)
  have e1 (k) : (blocksAt (entry1 m) c t).pred (ix3 k r l) = arg1 m c (ix3 (bat t) (pos64 r l) k) := (read1_2 t r l k).trans (v5_at r l m c (bat t) k)
  have e2 (k) : (blocksAt (entry1 m) c t).anchor (ix3 k r l) = arg2 m c (ix3 (bat t) (pos64 r l) k) := (read1_3 t r l k).trans (v9_at r l m c (bat t) k)
  have e3 : (blocksAt (entry1 m) c t).label (ix2 r l) = arg3 m c (ix2 (bat t) (pos64 r l)) := (read1_4 t r l).trans (v10_at r l m c (bat t))
  have e4 (k) : (blocksAt (entry1 m) c t).box (ix3 k r l) = arg4 m c (ix3 (bat t) (pos64 r l) k) := (read1_5 t r l k).trans (v7_at r l m c (bat t) k)
  have e5 : (blocksAt (entry1 m) c t).score (ix3 (0 : Fin 1) r l) = ∑ k, arg5 m c (ix3 (bat t) (pos64 r l) k) :=
    (read1_1 t r l 0).trans ((congrFun (scores_entry1 m c) _).trans (scores_at r l m c (bat t)))
  unfold Blocks.anchorAt anchorArg anchorOf
  simp only [e0, e1, e2, e3, e4, e5]
  congr 1

/-- The sum of a term over all anchors. -/
def total (k : Fin 5) : EReal := ∑ b, ∑ p, (anchorArg m c b p).term k

/-- After the last step each word holds the sum of its term over all anchors. -/
theorem words_total (k : Fin 5) : words (F := Ideal) (entry1 m) c 32 k = total m c k := by
  have h : ∀ n, n ≤ 32 → words (F := Ideal) (entry1 m) c n k
      = ∑ i ∈ Finset.range n, (if h : i < 32 then ∑ p, (anchorArg m c ⟨i, h⟩ p).term k else 0) := by
    intro n
    induction n with
    | zero => intro _; exact Ideal.ofBits_zero_f32
    | succ n ih =>
      intro hn
      have ht : n < cfg1.N := by have h : cfg1.N = 32 := N_1; omega
      rw [Finset.sum_range_succ, ← ih (by omega), words_succ (F := Ideal) (entry1 m) c ⟨n, ht⟩, Blocks.step_eq, dif_pos (by omega : n < 32), sum_pos64]
      simp only [anchorAt_eq]
      rfl
  rw [h 32 le_rfl, Finset.sum_range]
  exact Finset.sum_congr rfl fun b _ => dif_pos b.isLt

end Cert.Proof.Loss
end
-- ==== Proof.LossResults.lean ====
/-
  What the three results hold after the run: the quotients of the five sums over all anchors.
-/
module

public import proofs.«01_k».proof.Proof.LossArrays

@[expose] public section

noncomputable section

namespace Cert.Proof.Loss

open Cert.KernelIdeal Cert.KernelIdeal.Gen
open Idealize.ShloMosaic Idealize.ShloMosaic.TcCoe
open Idealize.SL Idealize.SL.Sem
open scoped BigOperators

set_option maxRecDepth 16384

variable (m : (ℓ : Loc nD τ sig) → Buf (Elt Ideal) ℓ) (c : Dev nD) (t : Fin cfg1.N)

/-! ## The three results -/

/-- The sum of the assigned scores, as every step reads it. -/
theorem sumAt_eq : sumAt (F := Ideal) (entry1 m) c t (ix1 (0 : Fin 1)) = arg6 m c ix0 :=
  (read1_6 t).trans (v11_at m c)

abbrev last : Fin cfg1.N := ⟨31, by decide⟩

/-- The results from the sums over all anchors and the sum of the assigned scores. -/
abbrev results : Fin 3 → EReal := finish (F := Ideal) (total m c) (arg6 m c ix0)

theorem finish_eq : finish (F := Ideal) (words (entry1 m) c 32) (sumAt (entry1 m) c t (ix1 (0 : Fin 1))) = results m c := by
  rw [sumAt_eq, show words (F := Ideal) (entry1 m) c 32 = total m c from funext (words_total m c)]

attribute [local irreducible] words finish total in
theorem after_7 : (dat1 (F := Ideal) (entry1 m) c).after 7 t = fun _ => results m c 0 := by
  rw [← finish_eq m c t]
  rfl

theorem array_7 : (dat1 (F := Ideal) (entry1 m) c).arrAt 7 cfg1.N = fun _ => results m c 0 := by
  refine (dat1 (entry1 m) c).arrAt_eq_of_after_last 7 last (by decide +kernel) _ fun j => ?_
  exact congrFun (after_7 m c last) _

theorem result_0 : V5 m (outsB m) c main_v0_0 = fun _ => results m c 0 := by
  funext j
  obtain rfl : j = ix0 := (ix0_eta j).symm
  unfold V5
  after_reads_at
  rw [V4_at0, array_7]

attribute [local irreducible] words finish total in
theorem after_8 : (dat1 (F := Ideal) (entry1 m) c).after 8 t = fun _ => results m c 1 := by
  rw [← finish_eq m c t]
  rfl

theorem array_8 : (dat1 (F := Ideal) (entry1 m) c).arrAt 8 cfg1.N = fun _ => results m c 1 := by
  refine (dat1 (entry1 m) c).arrAt_eq_of_after_last 8 last (by decide +kernel) _ fun j => ?_
  exact congrFun (after_8 m c last) _

theorem result_1 : V5 m (outsB m) c main_v0_1 = fun _ => results m c 1 := by
  funext j
  obtain rfl : j = ix0 := (ix0_eta j).symm
  unfold V5
  after_reads_at
  rw [V4_at1, array_8]

attribute [local irreducible] words finish total in
theorem after_9 : (dat1 (F := Ideal) (entry1 m) c).after 9 t = fun _ => results m c 2 := by
  rw [← finish_eq m c t]
  rfl

theorem array_9 : (dat1 (F := Ideal) (entry1 m) c).arrAt 9 cfg1.N = fun _ => results m c 2 := by
  refine (dat1 (entry1 m) c).arrAt_eq_of_after_last 9 last (by decide +kernel) _ fun j => ?_
  exact congrFun (after_9 m c last) _

theorem result_2 : V5 m (outsB m) c main_v0_2 = fun _ => results m c 2 := by
  funext j
  obtain rfl : j = ix0 := (ix0_eta j).symm
  unfold V5
  after_reads_at
  rw [V4_at2, array_9]

end Cert.Proof.Loss
end
-- ==== Proof.RefBoxes.lean ====
/-
  The problem's first two results over the extended reals: quotients of the sums of the anchors' terms.
-/
module

public import proofs.«01_k».proof.Proof.Gen.ReferenceIdeal.Read
public import proofs.«01_k».proof.Proof.AnchorOf
public import Idealize.ShloMosaic.Lib.Pointwise

@[expose] public section

noncomputable section

namespace Cert.Proof.Ref

open Cert.ReferenceIdeal Cert.ReferenceIdeal.Gen Cert.ReferenceIdeal.Read
open Idealize.ShloMosaic Idealize.ShloMosaic.TcCoe
open Cert.Proof.Loss
open scoped BigOperators

set_option maxRecDepth 16384

variable (x0 : S32x8192x34.Idx → EReal) (x1 : S32x8192x2.Idx → EReal) (x2 : S32x8192x1.Idx → EReal)
  (x3 : S32x8192.Idx → BitVec 32) (x4 : S32x8192x2.Idx → EReal) (x5 : S32x8192x80.Idx → EReal) (x6 : S_.Idx → EReal)
  (b : Fin 32) (p : Fin 8192)

/-- The sum of a term over all anchors. -/
def sumOf (k : Fin 5) : EReal := ∑ b, ∑ p, (anchorOf x0 x1 x2 x3 x4 x5 b p).term k

theorem isPos_at : val_main_v1 (F := Ideal) x3 (ix2 b p) = (anchorOf x0 x1 x2 x3 x4 x5 b p).isPos := by
  pointwise [val_main_v1, val_main_v0, val_main_c]
  rfl

theorem pos_at : val_main_v2 (F := Ideal) x3 (ix2 b p) = (anchorOf x0 x1 x2 x3 x4 x5 b p).pos :=
  congrArg (FloatOps.uitofp (F := Ideal) .f32) (isPos_at x0 x1 x2 x3 x4 x5 b p)

/-- The count of the assigned anchors. -/
theorem count_eq : val_main_v3 (F := Ideal) x3 ix0 = sumOf x0 x1 x2 x3 x4 x5 0 := by
  rw [val_main_v3_apply, sum_idx2]
  refine (congrArg₂ (· + ·) Ideal.ofBits_zero_f32 (Finset.sum_congr rfl fun b _ => Finset.sum_congr rfl fun p _ => pos_at x0 x1 x2 x3 x4 x5 b p)).trans ?_
  exact zero_add _

theorem l1_at (j : Fin 2) : val_main_v8 (F := Ideal) x1 x3 x4 (ix3 b p j)
    = FloatOps.absf (F := Ideal) (φ := .f32) (x1 (ix3 b p j) - x4 (ix3 b p j)) * (anchorOf x0 x1 x2 x3 x4 x5 b p).pos := by
  rw [← pos_at]
  pointwise [val_main_v8, val_main_v7, val_main_v6, val_main_v5, val_main_v4]

/-- The sum of the masked distances. -/
theorem l1_eq : val_main_v9 (F := Ideal) x1 x3 x4 ix0 = sumOf x0 x1 x2 x3 x4 x5 1 := by
  rw [val_main_v9_apply, sum_idx3]
  refine (congrArg₂ (· + ·) Ideal.ofBits_zero_f32 (Finset.sum_congr rfl fun b _ => Finset.sum_congr rfl fun p _ => ?_)).trans (zero_add _)
  rw [Fin.sum_univ_two, l1_at x0 x1 x2 x3 x4 x5, l1_at x0 x1 x2 x3 x4 x5, ← Anchor.add_mul_pos]
  rfl

/-- The first result. -/
theorem first_eq : val_main_v11 (F := Ideal) x1 x3 x4 ix0
    = Ideal.div (sumOf x0 x1 x2 x3 x4 x5 1) (sumOf x0 x1 x2 x3 x4 x5 0 * Ideal.ofBits .f32 0x40000000#32) := by
  rw [val_main_v11_apply, val_main_v10_apply, l1_eq x0 x1 x2 x3 x4 x5, count_eq x0 x1 x2 x3 x4 x5]
  rfl

theorem zero_at : (constant (F := Ideal) S_ .f32 0x00000000#32 : S_.Idx → EReal) ix0 = 0 := Ideal.ofBits_zero_f32
theorem one_at : (constant (F := Ideal) S_ .f32 0x3F800000#32 : S_.Idx → EReal) ix0 = 1 := by pointwise []

theorem overlap_at : val_main_v41 (F := Ideal) x1 x3 x4 (ix2 b p) = (anchorOf x0 x1 x2 x3 x4 x5 b p).term 2 := by
  pointwise [val_main_v41, val_main_v40, val_main_v39, val_main_v38, val_main_v37, val_main_v36, val_main_v35, val_main_v34,
    val_main_v33, val_main_v32, val_main_v31, val_main_v30, val_main_v29, val_main_v28, val_main_v27, val_main_v26,
    val_main_v25, val_main_v24, val_main_v23, val_main_v22, val_main_v21, val_main_v20, val_main_v19, val_main_v18,
    val_main_v17, val_main_v16, val_main_v15, val_main_v14, val_main_v13, val_main_v12, val_main_v1, val_main_v0, val_main_c,
    val_main_call0_v0, val_main_call0_v1, val_main_call1_v0, val_main_call1_v1, val_main_call2_v0, val_main_call2_v1,
    val_main_call3_v0, val_main_call3_v1, val_main_cst_2, val_main_cst_3, val_main_cst_4, val_main_cst_5, val_main_cst_6]
  simp only [id_eq, zero_at, one_at]
  rw [max_comm (0 : EReal)]
  rfl

/-- The sum of the masked overlap losses. -/
theorem overlap_eq : val_main_v42 (F := Ideal) x1 x3 x4 ix0 = sumOf x0 x1 x2 x3 x4 x5 2 := by
  rw [val_main_v42_apply, sum_idx2]
  exact (congrArg₂ (· + ·) Ideal.ofBits_zero_f32 (Finset.sum_congr rfl fun b _ => Finset.sum_congr rfl fun p _ => overlap_at x0 x1 x2 x3 x4 x5 b p)).trans (zero_add _)

theorem score_at : val_main_v44 (F := Ideal) x5 (ix2 b p) = (anchorOf x0 x1 x2 x3 x4 x5 b p).score := by
  rw [val_main_v44_apply]
  exact (congrArg₂ (· + ·) Ideal.ofBits_zero_f32 (Finset.sum_congr rfl fun k _ =>
    congrArg x5 (funext fun a => by fin_cases a <;> rfl))).trans (zero_add _)

theorem weight_at : val_main_v45 (F := Ideal) x3 x5 (ix2 b p) = (anchorOf x0 x1 x2 x3 x4 x5 b p).term 3 := by
  rw [val_main_v45_apply, score_at x0 x1 x2 x3 x4 x5, pos_at x0 x1 x2 x3 x4 x5]
  rfl

/-- The sum of the weights. -/
theorem weight_eq : val_main_v46 (F := Ideal) x3 x5 ix0 = sumOf x0 x1 x2 x3 x4 x5 3 := by
  rw [val_main_v46_apply, sum_idx2]
  exact (congrArg₂ (· + ·) Ideal.ofBits_zero_f32 (Finset.sum_congr rfl fun b _ => Finset.sum_congr rfl fun p _ => weight_at x0 x1 x2 x3 x4 x5 b p)).trans (zero_add _)

/-- The second result. -/
theorem second_eq : val_main_v48 (F := Ideal) x1 x3 x4 x5 x6 ix0
    = Ideal.div (Ideal.div (sumOf x0 x1 x2 x3 x4 x5 2) (sumOf x0 x1 x2 x3 x4 x5 0) * sumOf x0 x1 x2 x3 x4 x5 3) (x6 ix0) := by
  rw [val_main_v48_apply, val_main_v47_apply, val_main_v43_apply, overlap_eq x0 x1 x2 x3 x4 x5, count_eq x0 x1 x2 x3 x4 x5,
    weight_eq x0 x1 x2 x3 x4 x5]
  rfl

end Cert.Proof.Ref
end
-- ==== Proof.RefDist.lean ====
/-
  The problem's logarithms of the softmax, its clipped distances, its bins and its weights, at an anchor and a side.
-/
module

public import proofs.«01_k».proof.Proof.Gen.ReferenceIdeal.Read
public import proofs.«01_k».proof.Proof.AnchorOf
public import Idealize.ShloMosaic.Lib.Pointwise

@[expose] public section

noncomputable section

namespace Cert.Proof.Ref

open Cert.ReferenceIdeal Cert.ReferenceIdeal.Gen Cert.ReferenceIdeal.Read
open Idealize.ShloMosaic Idealize.ShloMosaic.TcCoe
open Cert.Proof.Loss
open scoped BigOperators

set_option maxRecDepth 16384

variable (x0 : S32x8192x34.Idx → EReal) (x1 : S32x8192x2.Idx → EReal) (x2 : S32x8192x1.Idx → EReal)
  (x3 : S32x8192.Idx → BitVec 32) (x4 : S32x8192x2.Idx → EReal) (x5 : S32x8192x80.Idx → EReal)
  (b : Fin 32) (p : Fin 8192) (s : Fin 2)

/-! ## The distances -/

theorem gap_at : val_main_v53 (F := Ideal) x2 x4 (ix3 b p s) = (anchorOf x0 x1 x2 x3 x4 x5 b p).gap s := by
  fin_cases s
  · pointwise [val_main_v53, val_main_v52, val_main_v51, val_main_v50, val_main_v49]
    rfl
  · pointwise [val_main_v53, val_main_v52, val_main_v51, val_main_v50, val_main_v49]
    rfl

theorem ltrb_at : val_main_v54 (F := Ideal) x2 x4 (ix3 b p s) = (anchorOf x0 x1 x2 x3 x4 x5 b p).ltrb s := by
  have h0 : (constant (F := Ideal) S_ .f32 0x00000000#32 : S_.Idx → EReal) ix0 = 0 := Ideal.ofBits_zero_f32
  pointwise [val_main_v54, val_main_call4_v0, val_main_call4_v1, val_main_call4_v2, val_main_call4_v3, val_main_call4_v4,
    val_main_cst_10, val_main_cst_11]
  rw [gap_at x0 x1 x2 x3 x4 x5]
  simp only [id_eq, h0]
  rfl

theorem bin_at : val_main_v57 (F := Ideal) x2 x4 (ix3 b p s) = (anchorOf x0 x1 x2 x3 x4 x5 b p).bin s :=
  congrArg (Ideal.fptosi 32) (ltrb_at x0 x1 x2 x3 x4 x5 b p s)

theorem bin_succ_at : val_main_v59 (F := Ideal) x2 x4 (ix3 b p s) = IntOp.addi ((anchorOf x0 x1 x2 x3 x4 x5 b p).bin s) 1#32 := by
  rw [← bin_at]
  pointwise [val_main_v59, val_main_v58, val_main_c_12]

theorem wl_at : val_main_v61 (F := Ideal) x2 x4 (ix3 b p s) = (anchorOf x0 x1 x2 x3 x4 x5 b p).wl s := by
  rw [val_main_v61_apply, val_main_v60_apply, bin_succ_at x0 x1 x2 x3 x4 x5, ltrb_at x0 x1 x2 x3 x4 x5]
  rfl

theorem wr_at : val_main_v63 (F := Ideal) x2 x4 (ix3 b p s) = (anchorOf x0 x1 x2 x3 x4 x5 b p).wr s := by
  pointwise [val_main_v63, val_main_v62, val_main_cst_13]
  rw [wl_at x0 x1 x2 x3 x4 x5]
  rfl

/-! ## The logarithms of the softmax -/

theorem logit_at (k : Fin 17) : val_main_v55 (F := Ideal) x0 (ix4 b p s k) = (anchorOf x0 x1 x2 x3 x4 x5 b p).logit s k := by
  pointwise [val_main_v55]
  fin_cases s
  · exact congrArg x0 (congrArg (fun z => ix3 b p z) (Fin.ext (by show 0 * 17 + k.val = k.val; omega)))
  · exact congrArg x0 (congrArg (fun z => ix3 b p z) (Fin.ext (by show 1 * 17 + k.val = 17 + k.val; omega)))

theorem bits_bot : Ideal.ofBits .f32 0xFF800000#32 = ⊥ := by
  simp [Ideal.ofBits, Ideal.ieee]

/-- The greatest along the last axis, whatever the array. -/
theorem fold_at (y : S32x8192x2x17.Idx → EReal) (z : S_.Idx → EReal) :
    Host.reduce (FloatOps.maximumf (F := Ideal) (φ := .f32)) y z reducesTo_S32x8192x2x17_S32x8192x2_d3 h_S_ (ix3 b p s)
      = Finset.univ.fold max (z (Shape.Idx.first h_S_)) (fun k : Fin 17 => y (ix4 b p s k)) := by
  pointwise []

theorem top_at : val_main_call5_v2 (F := Ideal) x0 (ix3 b p s) = top ((anchorOf x0 x1 x2 x3 x4 x5 b p).logit s) := by
  have h : val_main_call5_v0 (F := Ideal) x0 (ix3 b p s) = Finset.univ.fold max ⊥ ((anchorOf x0 x1 x2 x3 x4 x5 b p).logit s) := by
    unfold val_main_call5_v0
    rw [fold_at, show val_main_call5_cst (F := Ideal) (Shape.Idx.first h_S_) = (⊥ : EReal) from bits_bot]
    exact congrArg (fun f => Finset.univ.fold max ⊥ f) (funext fun k => logit_at x0 x1 x2 x3 x4 x5 b p s k)
  rw [val_main_call5_v2_apply, h, val_main_call5_v1_apply, val_main_call5_cst_0_apply]
  exact congrArg (fun z => max z (Finset.univ.fold max ⊥ ((anchorOf x0 x1 x2 x3 x4 x5 b p).logit s))) bits_bot

theorem shifted_at (k : Fin 17) : val_main_call5_v5 (F := Ideal) x0 (ix4 b p s k) = (anchorOf x0 x1 x2 x3 x4 x5 b p).logit s k - top ((anchorOf x0 x1 x2 x3 x4 x5 b p).logit s) := by
  pointwise [val_main_call5_v5, val_main_call5_v4, val_main_call5_v3]
  rw [logit_at x0 x1 x2 x3 x4 x5, top_at x0 x1 x2 x3 x4 x5]

theorem expsum_at : val_main_call5_v7 (F := Ideal) x0 (ix3 b p s) = ∑ k, Ideal.exp ((anchorOf x0 x1 x2 x3 x4 x5 b p).logit s k - top ((anchorOf x0 x1 x2 x3 x4 x5 b p).logit s)) := by
  rw [val_main_call5_v7_apply]
  refine (congrArg₂ (· + ·) Ideal.ofBits_zero_f32 (Finset.sum_congr rfl fun k _ => ?_)).trans (zero_add _)
  rw [val_main_call5_v6_apply, ← shifted_at]
  exact congrArg (fun i => Ideal.exp (val_main_call5_v5 (F := Ideal) x0 i)) (funext fun a => by fin_cases a <;> rfl)

theorem logp_at (k : Fin 17) : val_main_v56 (F := Ideal) x0 (ix4 b p s k) = logp ((anchorOf x0 x1 x2 x3 x4 x5 b p).logit s) k := by
  pointwise [val_main_v56, val_main_call5_v10, val_main_call5_v9, val_main_call5_v8]
  rw [shifted_at x0 x1 x2 x3 x4 x5, expsum_at x0 x1 x2 x3 x4 x5]
  rfl

end Cert.Proof.Ref
end
-- ==== Proof.RefTake.lean ====
/-
  The problem's reading of one entry along the last axis: at an index of bins that is in range it is that entry.
-/
module

public import proofs.«01_k».proof.Proof.RefDist

@[expose] public section

noncomputable section

namespace Cert.Proof.Ref

open Cert.ReferenceIdeal Cert.ReferenceIdeal.Gen Cert.ReferenceIdeal.Read
open Idealize.ShloMosaic Idealize.ShloMosaic.TcCoe
open Cert.Proof.Loss
open scoped BigOperators

set_option maxRecDepth 16384

variable (x0 : S32x8192x34.Idx → EReal) (x1 : S32x8192x2.Idx → EReal) (x2 : S32x8192x1.Idx → EReal)
  (x3 : S32x8192.Idx → BitVec 32) (x4 : S32x8192x2.Idx → EReal) (x5 : S32x8192x80.Idx → EReal)
  (b : Fin 32) (p : Fin 8192) (s : Fin 2)

/-- The gather's dimension numbers. -/
abbrev dims := gather_S32x8192x2x17_S32x8192x2x1x1_S32x8192x2x1_n_3_012_012_3_4_1111

/-- Along an axis that batches, the gather reads at the result's own coordinate there. -/
theorem batch_coord (y : S32x8192x2x1.Idx) (idx : S32x8192x2x1x1.Idx → BitVec 32) (a : Fin 4)
    (h : a ∈ dims.operandBatchingDims) :
    GatherDims.start dims y idx a + GatherDims.batchCoord dims y a + GatherDims.offCoord dims y a
      = GatherDims.batchCoord dims y a := by
  rw [GatherDims.start_batching _ _ _ _ h, GatherDims.offCoord_eq_zero _ _ _ (fun k => ((GatherDims.mem_sKept _ _).mp k).2 h)]
  simp only [Nat.zero_add, Nat.add_zero]

/-- The gather reads, at batch, position and side, the entry that the index there names, brought into the range. -/
theorem gather_at (y : S32x8192x2x17.Idx → EReal) (idx : S32x8192x2x1x1.Idx → BitVec 32) :
    Host.gather dims y idx (ix4 b p s (0 : Fin 1))
      = y (ix4 b p s (⟨min (idx (ix5 b p s (0 : Fin 1) (0 : Fin 1))).toInt.toNat 16, by omega⟩ : Fin 17)) := by
  unfold Host.gather
  congr 1
  funext a
  refine Fin.ext ?_
  show GatherDims.start dims _ idx a + GatherDims.batchCoord dims _ a + GatherDims.offCoord dims _ a = _
  match a with
  | ⟨0, _⟩ =>
    have h : (0 : Fin 4) ∈ ([0, 1, 2] : List (Fin 4)) := by decide
    refine (batch_coord _ idx 0 h).trans ?_
    unfold GatherDims.batchCoord
    rw [dif_pos (show (0 : Fin 4) ∈ dims.operandBatchingDims from h)]
    rfl
  | ⟨1, _⟩ =>
    have h : (1 : Fin 4) ∈ ([0, 1, 2] : List (Fin 4)) := by decide
    refine (batch_coord _ idx 1 h).trans ?_
    unfold GatherDims.batchCoord
    rw [dif_pos (show (1 : Fin 4) ∈ dims.operandBatchingDims from h)]
    rfl
  | ⟨2, _⟩ =>
    have h : (2 : Fin 4) ∈ ([0, 1, 2] : List (Fin 4)) := by decide
    refine (batch_coord _ idx 2 h).trans ?_
    unfold GatherDims.batchCoord
    rw [dif_pos (show (2 : Fin 4) ∈ dims.operandBatchingDims from h)]
    rfl
  | ⟨3, _⟩ =>
    have h : (3 : Fin 4) ∉ ([0, 1, 2] : List (Fin 4)) := by decide
    have k : (3 : Fin 4) ∈ ([3] : List (Fin 4)) := by decide
    show GatherDims.start dims _ idx 3 + GatherDims.batchCoord dims _ 3 + GatherDims.offCoord dims _ 3 = _
    rw [GatherDims.batchCoord_eq_zero _ _ _ h, GatherDims.offCoord_eq_zero _ _ _ (fun l => ((GatherDims.mem_sKept _ _).mp l).1 k)]
    simp only [Nat.add_zero]
    unfold GatherDims.start
    rw [dif_pos (show (3 : Fin 4) ∈ dims.startIndexMap from k)]
    have e : GatherDims.siIdx dims (ix4 b p s (0 : Fin 1)) ⟨List.idxOf (3 : Fin 4) dims.startIndexMap, List.idxOf_lt_length_iff.2 k⟩
        = ix5 b p s (0 : Fin 1) (0 : Fin 1) := by
      funext c
      refine Fin.ext ?_
      match c with
      | ⟨0, _⟩ => rfl
      | ⟨1, _⟩ => rfl
      | ⟨2, _⟩ => rfl
      | ⟨3, _⟩ => rfl
      | ⟨4, _⟩ => rfl
    rw [e]
    rfl

/-- The conjunction along an axis of one entry is that entry. -/
theorem and_at (y : S32x8192x2x1x1.Idx → BitVec 1) (z : S_.Idx → BitVec 1) (hz : z (Shape.Idx.first h_S_) = 1#1) :
    Host.reduce IntOp.andi y z reducesTo_S32x8192x2x1x1_S32x8192x2x1_d4 h_S_ (ix4 b p s (0 : Fin 1))
      = y (ix5 b p s (0 : Fin 1) (0 : Fin 1)) := by
  pointwise []
  rw [hz, Finset.univ_unique, Finset.fold_singleton]
  have h : ∀ c : BitVec 1, IntOp.andi c 1#1 = c := by decide
  exact h _

/-- An index in range is not moved. -/
theorem wrap_word (n : ℕ) (h : n ≤ 16) : Scalar.select (IntOp.cmpi .slt (BitVec.ofNat 32 n) 0#32)
    (IntOp.addi (BitVec.ofNat 32 n) 17#32) (BitVec.ofNat 32 n) = BitVec.ofNat 32 n := by
  interval_cases n <;> rfl

/-- An index in range passes the range check. -/
theorem range_word (n : ℕ) (h : n ≤ 16) :
    IntOp.andi (IntOp.cmpi .sge (BitVec.ofNat 32 n) 0#32) (IntOp.cmpi .sle (BitVec.ofNat 32 n) 16#32) = 1#1 := by
  interval_cases n <;> rfl

/-- The indices as the problem hands them to its gather: a negative one counts from the end. -/
def wrapped (v : S32x8192x2x1.Idx → BitVec 32) : S32x8192x2x1x1.Idx → BitVec 32 :=
  shapeCast _ (select (cmpi .slt v (broadcastInDim S32x8192x2x1 ![] bcast_S_S32x8192x2x1 (constantI S_ 32 0#32)))
    (addi v (broadcastInDim S32x8192x2x1 ![] bcast_S_S32x8192x2x1 (constantI S_ 32 17#32))) v)
    shapeCasts_S32x8192x2x1_S32x8192x2x1x1

/-- Which of those indices lie between 0 and 16. -/
def inRange (w : S32x8192x2x1x1.Idx → BitVec 32) : S32x8192x2x1x1.Idx → BitVec 1 :=
  andi (cmpi .sge w (broadcastInDim S32x8192x2x1x1 ![] bcast_S_S32x8192x2x1x1 (constantI S_ 32 0#32)))
    (cmpi .sle w (broadcastInDim S32x8192x2x1x1 ![0, 1, 2, 3, 4] bcast_S1x1x1x1x1_S32x8192x2x1x1_0_1_2_3_4
      (broadcastInDim S1x1x1x1x1 ![4] bcast_S1_S1x1x1x1x1_4 (constantI S1 32 16#32))))

/-- The problem's reading of one entry along the last axis: an index out of range reads as no number. -/
def along (y : S32x8192x2x17.Idx → EReal) (v : S32x8192x2x1.Idx → BitVec 32) : S32x8192x2x1.Idx → EReal :=
  select (Host.reduce IntOp.andi (inRange (wrapped v)) (constantI S_ 1 1#1) reducesTo_S32x8192x2x1x1_S32x8192x2x1_d4 h_S_)
    (Host.gather dims y (wrapped v))
    (broadcastInDim S32x8192x2x1 ![] bcast_S_S32x8192x2x1 (constant (F := Ideal) S_ .f32 0x7FC00000#32))

/-- Where the index is in range, the reading is of the entry it names. -/
theorem along_at (y : S32x8192x2x17.Idx → EReal) (v : S32x8192x2x1.Idx → BitVec 32) (n : ℕ) (hn : n ≤ 16)
    (hv : v (ix4 b p s (0 : Fin 1)) = BitVec.ofNat 32 n) :
    along y v (ix4 b p s (0 : Fin 1)) = take (fun k => y (ix4 b p s k)) (BitVec.ofNat 32 n) := by
  have w : wrapped v (ix5 b p s (0 : Fin 1) (0 : Fin 1)) = BitVec.ofNat 32 n := by
    pointwise [wrapped]
    rw [hv]
    exact wrap_word n hn
  have r : inRange (wrapped v) (ix5 b p s (0 : Fin 1) (0 : Fin 1)) = 1#1 := by
    pointwise [inRange]
    rw [w]
    exact range_word n hn
  unfold along
  show Scalar.select _ _ _ = _
  rw [and_at b p s _ _ rfl, r, gather_at]
  show take (fun k => y (ix4 b p s k)) (wrapped v (ix5 b p s (0 : Fin 1) (0 : Fin 1))) = _
  rw [w]

/-- The logarithm at an anchor's bin. -/
theorem take_at : val_main_v65 (F := Ideal) x0 x2 x4 (ix4 b p s (0 : Fin 1))
    = take (logp ((anchorOf x0 x1 x2 x3 x4 x5 b p).logit s)) ((anchorOf x0 x1 x2 x3 x4 x5 b p).bin s) := by
  obtain ⟨n, hn, h⟩ := (anchorOf x0 x1 x2 x3 x4 x5 b p).bin_lt s
  have v : val_main_v64 (F := Ideal) x2 x4 (ix4 b p s (0 : Fin 1)) = BitVec.ofNat 32 n := by
    pointwise [val_main_v64]
    exact (bin_at x0 x1 x2 x3 x4 x5 b p s).trans h
  refine (along_at b p s (val_main_v56 (F := Ideal) x0) (val_main_v64 (F := Ideal) x2 x4) n (by omega) v).trans ?_
  rw [h]
  exact congrArg (fun f => take f _) (funext fun k => logp_at x0 x1 x2 x3 x4 x5 b p s k)

/-- The logarithm at the bin after it. -/
theorem take_succ_at : val_main_v70 (F := Ideal) x0 x2 x4 (ix4 b p s (0 : Fin 1))
    = take (logp ((anchorOf x0 x1 x2 x3 x4 x5 b p).logit s)) (IntOp.addi ((anchorOf x0 x1 x2 x3 x4 x5 b p).bin s) 1#32) := by
  obtain ⟨n, hn, h⟩ := (anchorOf x0 x1 x2 x3 x4 x5 b p).bin_lt s
  have h' : IntOp.addi ((anchorOf x0 x1 x2 x3 x4 x5 b p).bin s) 1#32 = BitVec.ofNat 32 (n + 1) := by
    rw [h, Anchor.addi_one]
  have v : val_main_v69 (F := Ideal) x2 x4 (ix4 b p s (0 : Fin 1)) = BitVec.ofNat 32 (n + 1) := by
    pointwise [val_main_v69]
    exact (bin_succ_at x0 x1 x2 x3 x4 x5 b p s).trans h'
  refine (along_at b p s (val_main_v56 (F := Ideal) x0) (val_main_v69 (F := Ideal) x2 x4) (n + 1) (by omega) v).trans ?_
  rw [h']
  exact congrArg (fun f => take f _) (funext fun k => logp_at x0 x1 x2 x3 x4 x5 b p s k)

end Cert.Proof.Ref
end
-- ==== Proof.RefFocal.lean ====
/-
  The problem's third result: the sum over anchors of the anchors' focal terms, over the last argument.
-/
module

public import proofs.«01_k».proof.Proof.RefBoxes
public import proofs.«01_k».proof.Proof.RefTake

@[expose] public section

noncomputable section

namespace Cert.Proof.Ref

open Cert.ReferenceIdeal Cert.ReferenceIdeal.Gen Cert.ReferenceIdeal.Read
open Idealize.ShloMosaic Idealize.ShloMosaic.TcCoe
open Cert.Proof.Loss
open scoped BigOperators

set_option maxRecDepth 16384

variable (x0 : S32x8192x34.Idx → EReal) (x1 : S32x8192x2.Idx → EReal) (x2 : S32x8192x1.Idx → EReal)
  (x3 : S32x8192.Idx → BitVec 32) (x4 : S32x8192x2.Idx → EReal) (x5 : S32x8192x80.Idx → EReal) (x6 : S_.Idx → EReal)
  (b : Fin 32) (p : Fin 8192) (s : Fin 2)

/-- The cross entropy of one side, split between the bin and the one after it. -/
theorem side_at : val_main_v74 (F := Ideal) x0 x2 x4 (ix3 b p s) = (anchorOf x0 x1 x2 x3 x4 x5 b p).sideR s := by
  pointwise [val_main_v74, val_main_v73, val_main_v72, val_main_v71, val_main_v68, val_main_v67, val_main_v66]
  rw [take_at x0 x1 x2 x3 x4 x5, take_succ_at x0 x1 x2 x3 x4 x5, wl_at x0 x1 x2 x3 x4 x5, wr_at x0 x1 x2 x3 x4 x5]
  rfl

/-- The two sides' sum. -/
theorem sides_at : val_main_v75 (F := Ideal) x0 x2 x4 (ix2 b p)
    = (anchorOf x0 x1 x2 x3 x4 x5 b p).sideR 0 + (anchorOf x0 x1 x2 x3 x4 x5 b p).sideR 1 := by
  rw [val_main_v75_apply, Fin.sum_univ_two, ← side_at, ← side_at]
  refine (congrArg₂ (· + ·) Ideal.ofBits_zero_f32 (congrArg₂ (· + ·) ?_ ?_)).trans (zero_add _)
  · exact congrArg (val_main_v74 (F := Ideal) x0 x2 x4) (funext fun a => by fin_cases a <;> rfl)
  · exact congrArg (val_main_v74 (F := Ideal) x0 x2 x4) (funext fun a => by fin_cases a <;> rfl)

/-- One anchor's focal term, at finite logits. -/
theorem focal_at (h : ∀ i, ∃ y : ℝ, x0 i = y) :
    val_main_v78 (F := Ideal) x0 x2 x3 x4 x5 (ix2 b p) = (anchorOf x0 x1 x2 x3 x4 x5 b p).term 4 := by
  rw [Anchor.term_focal _ (fun s k => by rw [← logit_at]; exact h _)]
  pointwise [val_main_v78, val_main_v77, val_main_v76, val_main_cst_15]
  rw [sides_at x0 x1 x2 x3 x4 x5, weight_at x0 x1 x2 x3 x4 x5]
  rfl

/-- The third result, at finite logits. -/
theorem third_eq (h : ∀ i, ∃ y : ℝ, x0 i = y) :
    val_main_v80 (F := Ideal) x0 x2 x3 x4 x5 x6 ix0 = Ideal.div (sumOf x0 x1 x2 x3 x4 x5 4) (x6 ix0) := by
  have e : val_main_v79 (F := Ideal) x0 x2 x3 x4 x5 ix0 = sumOf x0 x1 x2 x3 x4 x5 4 := by
    rw [val_main_v79_apply, sum_idx2]
    refine (congrArg₂ (· + ·) Ideal.ofBits_zero_f32 ?_).trans (zero_add _)
    exact Finset.sum_congr rfl fun b _ => Finset.sum_congr rfl fun p _ => focal_at x0 x1 x2 x3 x4 x5 b p h
  rw [← e]
  rfl

end Cert.Proof.Ref
end
-- ==== Proof.Agree.lean ====
/-
  The value claim: on finite logits the kernel's three results are the problem's.
-/
module

public import proofs.«01_k».proof.Defs
public import proofs.«01_k».proof.Proof.LossResults
public import proofs.«01_k».proof.Proof.RefFocal
public import proofs.«01_k».proof.Proof.Gen.ReferenceIdeal.Run
public import proofs.«01_k».proof.Proof.Gen.Pre_finite_logits
public import Idealize.ShloMosaic.Lib.StableHlo.RunHlo

@[expose] public section

noncomputable section

namespace Cert.Proof.Agree

open Idealize.ShloMosaic Idealize.ShloMosaic.TcCoe Idealize.SL.Sem
open Cert.Proof.Loss

/-- An extended real whose absolute value lies below the positive infinity is a real number. -/
theorem real_of_lt (a : EReal) (h : max a (-a) < ⊤) : ∃ y : ℝ, a = y := by
  induction a with
  | bot => simp at h
  | top => simp at h
  | coe y => exact ⟨y, rfl⟩

/-- A comparison that holds is the order's. -/
theorem lt_of_cmp (a b : EReal) (h : FloatOps.cmpf (F := Ideal) (φ := .f32) .olt a b = 1#1) : a < b := by
  by_contra n
  change BitVec.ofBool (decide (a < b)) = 1#1 at h
  rw [decide_eq_false n] at h
  exact absurd h (by decide)

/-- The precondition: every logit is a real number. -/
theorem real_logits (m : (ℓ : Loc Cert.KernelIdeal.nD Cert.KernelIdeal.τ Cert.KernelIdeal.sig) → Buf (Elt Ideal) ℓ)
    (h : Cert.Pre_KernelIdeal_finite_logits m) (c : Dev Cert.KernelIdeal.nD) (i : Cert.KernelIdeal.S32x8192x34.Idx) :
    ∃ y : ℝ, arg0 m c i = y := by
  have e := congrFun (h c) i
  unfold Cert.Pre_finite_logits.fn at e
  have b : Ideal.ofBits .f32 0x7F800000#32 = ⊤ := by simp [Ideal.ofBits, Ideal.ieee]
  have t : FloatOps.cmpf (F := Ideal) (φ := .f32) .olt (max (arg0 m c i) (-(arg0 m c i))) (Ideal.ofBits .f32 0x7F800000#32) = 1#1 := e
  rw [b] at t
  exact real_of_lt _ (lt_of_cmp _ _ t)

variable (m : (ℓ : Loc Cert.KernelIdeal.nD Cert.KernelIdeal.τ Cert.KernelIdeal.sig) → Buf (Elt Ideal) ℓ) (c : Dev Cert.KernelIdeal.nD)

/-- The two sides sum the same terms. -/
theorem sum_eq (k : Fin 5) : Ref.sumOf (arg0 m c) (arg1 m c) (arg2 m c) (arg3 m c) (arg4 m c) (arg5 m c) k = total m c k := by
  unfold Ref.sumOf total
  rfl

/-- The problem's first result of the kernel's arguments is the kernel's. -/
theorem agree_0 : Cert.ReferenceIdeal.Read.val_main_v11 (F := Ideal) (arg1 m c) (arg3 m c) (arg4 m c) = fun _ => results m c 0 := by
  funext j
  obtain rfl : j = ix0 := (ix0_eta j).symm
  rw [Ref.first_eq (arg0 m c) (arg1 m c) (arg2 m c) (arg3 m c) (arg4 m c) (arg5 m c), sum_eq, sum_eq]
  show _ = finish (F := Ideal) (total m c) (arg6 m c ix0) 0
  generalize total m c = w
  rfl

/-- The second. -/
theorem agree_1 : Cert.ReferenceIdeal.Read.val_main_v48 (F := Ideal) (arg1 m c) (arg3 m c) (arg4 m c) (arg5 m c) (arg6 m c)
    = fun _ => results m c 1 := by
  funext j
  obtain rfl : j = ix0 := (ix0_eta j).symm
  rw [Ref.second_eq (arg0 m c) (arg1 m c) (arg2 m c) (arg3 m c) (arg4 m c) (arg5 m c) (arg6 m c), sum_eq, sum_eq, sum_eq]
  show _ = finish (F := Ideal) (total m c) (arg6 m c ix0) 1
  generalize total m c = w
  rfl

/-- The third, at finite logits. -/
theorem agree_2 (h : Cert.Pre_KernelIdeal_finite_logits m) :
    Cert.ReferenceIdeal.Read.val_main_v80 (F := Ideal) (arg0 m c) (arg2 m c) (arg3 m c) (arg4 m c) (arg5 m c) (arg6 m c)
      = fun _ => results m c 2 := by
  funext j
  obtain rfl : j = ix0 := (ix0_eta j).symm
  rw [Ref.third_eq (arg0 m c) (arg1 m c) (arg2 m c) (arg3 m c) (arg4 m c) (arg5 m c) (arg6 m c) (real_logits m h c), sum_eq]
  show _ = finish (F := Ideal) (total m c) (arg6 m c ix0) 2
  generalize total m c = w
  rfl

/-- Run on the same arguments, the kernel and the problem end with the same three results, their arguments unchanged. -/
theorem agree : Cert.algebraic_KernelIdeal_ReferenceIdeal_pre_finite_logits := fun m g m' g' hpre hargs => by
  refine ⟨fun c _ => results m c 0, fun c _ => results m c 1, fun c _ => results m c 2, ?_, ?_⟩
  · refine θ_run_mono (run_values (F := Ideal) m g) fun r h c => ?_
    obtain ⟨h0, h1, h2, h3, h4, h5, h6, r0, r1, r2⟩ := h.1 c
    exact ⟨r0.trans (result_0 m c), r1.trans (result_1 m c), r2.trans (result_2 m c), h0, h1, h2, h3, h4, h5, h6⟩
  · refine θ_run_mono (Cert.ReferenceIdeal.Value.run (F := Ideal) m' g') fun r h c => ?_
    obtain ⟨r0, r1, r2, rest⟩ := h c
    obtain ⟨a0, a1, a2, a3, a4, a5, a6⟩ := hargs c
    refine ⟨(r0.trans (Cert.ReferenceIdeal.Read.val_main_v11_eq _ _ _)).trans ?_,
      (r1.trans (Cert.ReferenceIdeal.Read.val_main_v48_eq _ _ _ _ _)).trans ?_,
      (r2.trans (Cert.ReferenceIdeal.Read.val_main_v80_eq m' c)).trans ?_, rest⟩
    · rw [a1, a3, a4]; exact agree_0 m c
    · rw [a1, a3, a4, a5, a6]; exact agree_1 m c
    · rw [a0, a2, a3, a4, a5, a6]; exact agree_2 m c hpre

end Cert.Proof.Agree
end
-- ==== Proof.lean ====
/-
  The certificate: the kernel, its reading over the reals and the problem each end with their arguments as launched and
  every counter at zero, and on finite logits the kernel's three results are the problem's.
-/
module

public import proofs.«01_k».proof.Defs
public import proofs.«01_k».proof.Proof.Frames
public import proofs.«01_k».proof.Proof.Agree
public import proofs.«01_k».proof.Proof.Gen.Kernel
public import proofs.«01_k».proof.Proof.Gen.KernelIdeal
public import proofs.«01_k».proof.Proof.Gen.ReferenceIdeal
public import proofs.«01_k».proof.Proof.Gen.Pre_finite_logits

@[expose] public section

noncomputable section

namespace Cert.Proof

/-- The frames, the value claim, and the idealization's own claim, which is of no rewritten operation. -/
theorem claim : Cert.Claim := ⟨Cert.Kernel.Gen.facts, Cert.KernelIdeal.Gen.facts, Cert.ReferenceIdeal.Gen.facts,
  Cert.Pre_finite_logits.Gen.facts, Loss.frame_kernel, Loss.frame_ideal, Loss.frame_ideal_pre, Loss.frame_reference,
  Loss.frame_reference_pre, trivial, Agree.agree⟩

end Cert.Proof

end
